-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v341) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2048x768 : Shape := ⟨2, ![2048, 768]⟩
abbrev S768x2048 : Shape := ⟨2, ![768, 2048]⟩
abbrev S8x768 : Shape := ⟨2, ![8, 768]⟩
abbrev S8x8x768 : Shape := ⟨3, ![8, 8, 768]⟩
abbrev S8x2048x8 : Shape := ⟨3, ![8, 2048, 8]⟩
abbrev S8x8x2048 : Shape := ⟨3, ![8, 8, 2048]⟩
abbrev S8x768x8 : Shape := ⟨3, ![8, 768, 8]⟩
abbrev S_ : Shape := ⟨0, ![]⟩

class Facts : Prop where
  bcast_S_S2048x768 : S_.BroadcastsInDim S2048x768 (![] : Fin 0 → Fin S2048x768.rank)
  bcast_S_S768x2048 : S_.BroadcastsInDim S768x2048 (![] : Fin 0 → Fin S768x2048.rank)
  bcast_S_S8x768 : S_.BroadcastsInDim S8x768 (![] : Fin 0 → Fin S8x768.rank)
  bcast_S_S8x8x768 : S_.BroadcastsInDim S8x8x768 (![] : Fin 0 → Fin S8x8x768.rank)
  bcast_S_S8x2048x8 : S_.BroadcastsInDim S8x2048x8 (![] : Fin 0 → Fin S8x2048x8.rank)

variable [Facts]

def fn_part1 {F : FTy → Type} [FloatOps F] (main_arg6 : FVec F S8x2048x8 .f32) (main_arg7 : FVec F S8x8x768 .f32) (main_arg8 : FVec F S8x2048x8 .f32) (main_v2 : IVec S2048x768 1) (main_v5 : IVec S2048x768 1) (main_v8 : IVec S2048x768 1) (main_v11 : IVec S768x2048 1) (main_v14 : IVec S8x768 1) (main_v17 : IVec S8x8x768 1) : IVec S2048x768 1 × IVec S2048x768 1 × IVec S2048x768 1 × IVec S768x2048 1 × IVec S8x768 1 × IVec S8x8x768 1 × IVec S8x2048x8 1 × IVec S8x8x768 1 × IVec S8x2048x8 1 :=
  let main_v18 : FVec F S8x2048x8 .f32 := Host.absf main_arg6
  let main_cst_5 : FVec F S_ .f32 := constant S_ .f32 0x7F800000#32
  let main_v19 : FVec F S8x2048x8 .f32 := broadcastInDim S8x2048x8 ![] bcast_S_S8x2048x8 main_cst_5
  let main_v20 : IVec S8x2048x8 1 := cmpf .olt main_v18 main_v19
  let main_v21 : FVec F S8x8x768 .f32 := Host.absf main_arg7
  let main_cst_6 : FVec F S_ .f32 := constant S_ .f32 0x7F800000#32
  let main_v22 : FVec F S8x8x768 .f32 := broadcastInDim S8x8x768 ![] bcast_S_S8x8x768 main_cst_6
  let main_v23 : IVec S8x8x768 1 := cmpf .olt main_v21 main_v22
  let main_v24 : FVec F S8x2048x8 .f32 := Host.absf main_arg8
  let main_cst_7 : FVec F S_ .f32 := constant S_ .f32 0x7F800000#32
  let main_v25 : FVec F S8x2048x8 .f32 := broadcastInDim S8x2048x8 ![] bcast_S_S8x2048x8 main_cst_7
  let main_v26 : IVec S8x2048x8 1 := cmpf .olt main_v24 main_v25
  (main_v2, main_v5, main_v8, main_v11, main_v14, main_v17, main_v20, main_v23, main_v26)

def fn {F : FTy → Type} [FloatOps F] (main_arg0 : FVec F S2048x768 .f32) (main_arg1 : FVec F S2048x768 .f32) (main_arg2 : FVec F S2048x768 .f32) (main_arg3 : FVec F S768x2048 .f32) (main_arg4 : FVec F S8x768 .f32) (main_arg5 : FVec F S8x8x768 .f32) (main_arg6 : FVec F S8x2048x8 .f32) (main_arg7 : FVec F S8x8x768 .f32) (main_arg8 : FVec F S8x2048x8 .f32) (main_arg9 : FVec F S8x8x2048 .f32) (main_arg10 : FVec F S8x768x8 .f32) : IVec S2048x768 1 × IVec S2048x768 1 × IVec S2048x768 1 × IVec S768x2048 1 × IVec S8x768 1 × IVec S8x8x768 1 × IVec S8x2048x8 1 × IVec S8x8x768 1 × IVec S8x2048x8 1 :=
  let main_v0 : FVec F S2048x768 .f32 := Host.absf main_arg0
  let main_cst : FVec F S_ .f32 := constant S_ .f32 0x7F800000#32
  let main_v1 : FVec F S2048x768 .f32 := broadcastInDim S2048x768 ![] bcast_S_S2048x768 main_cst
  let main_v2 : IVec S2048x768 1 := cmpf .olt main_v0 main_v1
  let main_v3 : FVec F S2048x768 .f32 := Host.absf main_arg1
  let main_cst_0 : FVec F S_ .f32 := constant S_ .f32 0x7F800000#32
  let main_v4 : FVec F S2048x768 .f32 := broadcastInDim S2048x768 ![] bcast_S_S2048x768 main_cst_0
  let main_v5 : IVec S2048x768 1 := cmpf .olt main_v3 main_v4
  let main_v6 : FVec F S2048x768 .f32 := Host.absf main_arg2
  let main_cst_1 : FVec F S_ .f32 := constant S_ .f32 0x7F800000#32
  let main_v7 : FVec F S2048x768 .f32 := broadcastInDim S2048x768 ![] bcast_S_S2048x768 main_cst_1
  let main_v8 : IVec S2048x768 1 := cmpf .olt main_v6 main_v7
  let main_v9 : FVec F S768x2048 .f32 := Host.absf main_arg3
  let main_cst_2 : FVec F S_ .f32 := constant S_ .f32 0x7F800000#32
  let main_v10 : FVec F S768x2048 .f32 := broadcastInDim S768x2048 ![] bcast_S_S768x2048 main_cst_2
  let main_v11 : IVec S768x2048 1 := cmpf .olt main_v9 main_v10
  let main_v12 : FVec F S8x768 .f32 := Host.absf main_arg4
  let main_cst_3 : FVec F S_ .f32 := constant S_ .f32 0x7F800000#32
  let main_v13 : FVec F S8x768 .f32 := broadcastInDim S8x768 ![] bcast_S_S8x768 main_cst_3
  let main_v14 : IVec S8x768 1 := cmpf .olt main_v12 main_v13
  let main_v15 : FVec F S8x8x768 .f32 := Host.absf main_arg5
  let main_cst_4 : FVec F S_ .f32 := constant S_ .f32 0x7F800000#32
  let main_v16 : FVec F S8x8x768 .f32 := broadcastInDim S8x8x768 ![] bcast_S_S8x8x768 main_cst_4
  let main_v17 : IVec S8x8x768 1 := cmpf .olt main_v15 main_v16
  fn_part1 (F := F) main_arg6 main_arg7 main_arg8 main_v2 main_v5 main_v8 main_v11 main_v14 main_v17
-- ==== Kernel.lean ====
abbrev S2048x768 : Shape := ⟨2, ![2048, 768]⟩
abbrev S768x2048 : Shape := ⟨2, ![768, 2048]⟩
abbrev S8x768 : Shape := ⟨2, ![8, 768]⟩
abbrev S8x8x768 : Shape := ⟨3, ![8, 8, 768]⟩
abbrev S8x2048x8 : Shape := ⟨3, ![8, 2048, 8]⟩
abbrev S8x8x2048 : Shape := ⟨3, ![8, 8, 2048]⟩
abbrev S8x768x8 : Shape := ⟨3, ![8, 768, 8]⟩
abbrev S64x2048 : Shape := ⟨2, ![64, 2048]⟩
abbrev S192x2048 : Shape := ⟨2, ![192, 2048]⟩
abbrev S64x768 : Shape := ⟨2, ![64, 768]⟩
abbrev S256x768 : Shape := ⟨2, ![256, 768]⟩
abbrev S768x256 : Shape := ⟨2, ![768, 256]⟩
abbrev S192x256 : Shape := ⟨2, ![192, 256]⟩
abbrev S2048x256 : Shape := ⟨2, ![2048, 256]⟩
abbrev S2048x128 : Shape := ⟨2, ![2048, 128]⟩
abbrev S2048x8 : Shape := ⟨2, ![2048, 8]⟩
abbrev S2048 : Shape := ⟨1, ![2048]⟩
abbrev S2048x1 : Shape := ⟨2, ![2048, 1]⟩
abbrev S2048x64 : Shape := ⟨2, ![2048, 64]⟩
abbrev S64x256 : Shape := ⟨2, ![64, 256]⟩

abbrev nBuf : Space → Nat
  | .hbm => 24
  | .vmem => 19
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S768x2048, .f32⟩
  | .hbm, ⟨4, _⟩ => ⟨S8x768, .f32⟩
  | .hbm, ⟨5, _⟩ => ⟨S8x8x768, .f32⟩
  | .hbm, ⟨6, _⟩ => ⟨S8x2048x8, .f32⟩
  | .hbm, ⟨7, _⟩ => ⟨S8x8x768, .f32⟩
  | .hbm, ⟨8, _⟩ => ⟨S8x2048x8, .f32⟩
  | .hbm, ⟨9, _⟩ => ⟨S8x8x2048, .f32⟩
  | .hbm, ⟨10, _⟩ => ⟨S8x768x8, .f32⟩
  | .hbm, ⟨11, _⟩ => ⟨S8x8x2048, .f32⟩
  | .hbm, ⟨12, _⟩ => ⟨S64x2048, .f32⟩
  | .hbm, ⟨13, _⟩ => ⟨S8x8x2048, .f32⟩
  | .hbm, ⟨14, _⟩ => ⟨S64x2048, .f32⟩
  | .hbm, ⟨15, _⟩ => ⟨S64x2048, .f32⟩
  | .hbm, ⟨16, _⟩ => ⟨S192x2048, .f32⟩
  | .hbm, ⟨17, _⟩ => ⟨S192x2048, .bf16⟩
  | .hbm, ⟨18, _⟩ => ⟨S8x8x768, .f32⟩
  | .hbm, ⟨19, _⟩ => ⟨S64x768, .f32⟩
  | .hbm, ⟨20, _⟩ => ⟨S64x768, .bf16⟩
  | .hbm, ⟨21, _⟩ => ⟨S64x768, .f32⟩
  | .hbm, ⟨22, _⟩ => ⟨S64x768, .f32⟩
  | .hbm, ⟨23, _⟩ => ⟨S2048x768, .f32⟩
  | .local _ .vmem, ⟨0, _⟩ => ⟨S2048x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S768x256, .f32⟩
  | .local _ .vmem, ⟨6, _⟩ => ⟨S768x256, .f32⟩
  | .local _ .vmem, ⟨7, _⟩ => ⟨S8x768, .f32⟩
  | .local _ .vmem, ⟨8, _⟩ => ⟨S64x768, .f32⟩
  | .local _ .vmem, ⟨9, _⟩ => ⟨S64x768, .f32⟩
  | .local _ .vmem, ⟨10, _⟩ => ⟨S192x256, .bf16⟩
  | .local _ .vmem, ⟨11, _⟩ => ⟨S192x256, .bf16⟩
  | .local _ .vmem, ⟨12, _⟩ => ⟨S64x768, .bf16⟩
  | .local _ .vmem, ⟨13, _⟩ => ⟨S2048x768, .f32⟩
  | .local _ .vmem, ⟨14, _⟩ => ⟨S2048x768, .bf16⟩
  | .local _ .vmem, ⟨15, _⟩ => ⟨S2048x256, .bf16⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c0_i32_30 : BitVec 32 := 0#32
  let v50 : BitVec 1 := Scalar.cmpi .eq arg0 c0_i32_30
  let v51 : BitVec 32 := Scalar.extui v50
  let c0_i32_31 : BitVec 32 := 0#32
  let v52 : BitVec 1 := Scalar.cmpi .ne v51 c0_i32_31
  v52

def k0_cond3 (i : grid0.Coords) : BitVec 1 :=
  let arg0 : BitVec 32 := BitVec.ofNat 32 (i 0).val
  let c0_i32_32 : BitVec 32 := 0#32
  let v53 : BitVec 1 := Scalar.cmpi .sgt arg0 c0_i32_32
  let v54 : BitVec 32 := Scalar.extui v53
  let c0_i32_33 : BitVec 32 := 0#32
  let v55 : BitVec 1 := Scalar.cmpi .ne v54 c0_i32_33
  v55

def k0_cond4 (i : grid0.Coords) : BitVec 1 :=
  let arg0 : BitVec 32 := BitVec.ofNat 32 (i 0).val
  let c7_i32 : BitVec 32 := 7#32
  let v56 : BitVec 1 := Scalar.cmpi .eq arg0 c7_i32
  let v57 : BitVec 32 := Scalar.extui v56
  let c0_i32_34 : BitVec 32 := 0#32
  let v58 : BitVec 1 := Scalar.cmpi .ne v57 c0_i32_34
  v58

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S192x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S64x768 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S2048x768 : Shape := ⟨2, ![2048, 768]⟩
abbrev S768x2048 : Shape := ⟨2, ![768, 2048]⟩
abbrev S8x768 : Shape := ⟨2, ![8, 768]⟩
abbrev S8x8x768 : Shape := ⟨3, ![8, 8, 768]⟩
abbrev S8x2048x8 : Shape := ⟨3, ![8, 2048, 8]⟩
abbrev S8x8x2048 : Shape := ⟨3, ![8, 8, 2048]⟩
abbrev S8x768x8 : Shape := ⟨3, ![8, 768, 8]⟩
abbrev S2048x2048 : Shape := ⟨2, ![2048, 2048]⟩
abbrev S768x8 : Shape := ⟨2, ![768, 8]⟩
abbrev S2048x8 : Shape := ⟨2, ![2048, 8]⟩
abbrev S_ : Shape := ⟨0, ![]⟩
abbrev S2048 : Shape := ⟨1, ![2048]⟩
abbrev S2048x1 : Shape := ⟨2, ![2048, 1]⟩
abbrev S2048x2 : Shape := ⟨2, ![2048, 2]⟩
abbrev S1x8x768 : Shape := ⟨3, ![1, 8, 768]⟩
abbrev S1x2048x8 : Shape := ⟨3, ![1, 2048, 8]⟩
abbrev S8x2048 : Shape := ⟨2, ![8, 2048]⟩
abbrev S1x8x2048 : Shape := ⟨3, ![1, 8, 2048]⟩
abbrev S1x768x8 : Shape := ⟨3, ![1, 768, 8]⟩

abbrev nBuf : Space → Nat
  | .hbm => 440
  | .vmem => 0
  | .smem => 0
  | _ => 0

abbrev hbmTy0_0 (i : Nat) : BufTy := match i % 128 with
  | 0 => ⟨S2048x768, .f32⟩
  | 1 => ⟨S2048x768, .f32⟩
  | 2 => ⟨S2048x768, .f32⟩
  | 3 => ⟨S768x2048, .f32⟩
  | 4 => ⟨S8x768, .f32⟩
  | 5 => ⟨S8x8x768, .f32⟩
  | 6 => ⟨S8x2048x8, .f32⟩
  | 7 => ⟨S8x8x768, .f32⟩
  | 8 => ⟨S8x2048x8, .f32⟩
  | 9 => ⟨S8x8x2048, .f32⟩
  | 10 => ⟨S8x768x8, .f32⟩
  | 11 => ⟨S768x2048, .f32⟩
  | 12 => ⟨S2048x2048, .f32⟩
  | 13 => ⟨S768x2048, .f32⟩
  | 14 => ⟨S2048x2048, .f32⟩
  | 15 => ⟨S768x8, .f32⟩
  | 16 => ⟨S2048x8, .f32⟩
  | 17 => ⟨S_, .f32⟩
  | 18 => ⟨S2048, .f32⟩
  | 19 => ⟨S_, .f32⟩
  | 20 => ⟨S2048, .f32⟩
  | 21 => ⟨S2048, .f32⟩
  | 22 => ⟨S2048x1, .f32⟩
  | 23 => ⟨S2048x8, .f32⟩
  | 24 => ⟨S2048x8, .f32⟩
  | 25 => ⟨S2048x8, .f32⟩
  | 26 => ⟨S_, .f32⟩
  | 27 => ⟨S2048, .f32⟩
  | 28 => ⟨S2048x1, .f32⟩
  | 29 => ⟨S2048x8, .f32⟩
  | 30 => ⟨S2048x8, .f32⟩
  | 31 => ⟨S2048x2, .f32⟩
  | 32 => ⟨S2048x2, .i32⟩
  | 33 => ⟨S_, .f32⟩
  | 34 => ⟨S2048, .f32⟩
  | 35 => ⟨S2048x1, .f32⟩
  | 36 => ⟨S2048x2, .f32⟩
  | 37 => ⟨S2048x2, .f32⟩
  | 38 => ⟨S_, .f32⟩
  | 39 => ⟨S2048x768, .f32⟩
  | 40 => ⟨S1x8x768, .f32⟩
  | 41 => ⟨S8x768, .f32⟩
  | 42 => ⟨S768x8, .f32⟩
  | 43 => ⟨S2048x8, .f32⟩
  | 44 => ⟨S1x2048x8, .f32⟩
  | 45 => ⟨S2048x8, .f32⟩
  | 46 => ⟨S8x2048, .f32⟩
  | 47 => ⟨S2048x2048, .f32⟩
  | 48 => ⟨S2048x2048, .f32⟩
  | 49 => ⟨S1x8x768, .f32⟩
  | 50 => ⟨S8x768, .f32⟩
  | 51 => ⟨S768x8, .f32⟩
  | 52 => ⟨S2048x8, .f32⟩
  | 53 => ⟨S1x2048x8, .f32⟩
  | 54 => ⟨S2048x8, .f32⟩
  | 55 => ⟨S8x2048, .f32⟩
  | 56 => ⟨S2048x2048, .f32⟩
  | 57 => ⟨S2048x2048, .f32⟩
  | 58 => ⟨S2048x2048, .f32⟩
  | 59 => ⟨S2048x2048, .f32⟩
  | 60 => ⟨S_, .f32⟩
  | 61 => ⟨S2048x2048, .f32⟩
  | 62 => ⟨S2048x2048, .f32⟩
  | 63 => ⟨S_, .f32⟩
  | 64 => ⟨S2048x2048, .f32⟩
  | 65 => ⟨S2048x2048, .f32⟩
  | 66 => ⟨S2048x2048, .f32⟩
  | 67 => ⟨S2048x2048, .f32⟩
  | 68 => ⟨S2048x768, .f32⟩
  | 69 => ⟨S2048x768, .f32⟩
  | 70 => ⟨S1x8x2048, .f32⟩
  | 71 => ⟨S8x2048, .f32⟩
  | 72 => ⟨S2048x8, .f32⟩
  | 73 => ⟨S2048x8, .f32⟩
  | 74 => ⟨S1x768x8, .f32⟩
  | 75 => ⟨S768x8, .f32⟩
  | 76 => ⟨S8x768, .f32⟩
  | 77 => ⟨S2048x768, .f32⟩
  | 78 => ⟨S2048x768, .f32⟩
  | 79 => ⟨S_, .i32⟩
  | 80 => ⟨S2048x2, .i32⟩
  | 81 => ⟨S2048x2, .i1⟩
  | 82 => ⟨S2048x2, .f32⟩
  | 83 => ⟨S2048x2, .f32⟩
  | 84 => ⟨S_, .f32⟩
  | 85 => ⟨S2048, .f32⟩
  | 86 => ⟨S2048x1, .f32⟩
  | 87 => ⟨S2048x768, .f32⟩
  | 88 => ⟨S2048x768, .f32⟩
  | 89 => ⟨S2048x768, .f32⟩
  | 90 => ⟨S1x8x768, .f32⟩
  | 91 => ⟨S8x768, .f32⟩
  | 92 => ⟨S768x8, .f32⟩
  | 93 => ⟨S2048x8, .f32⟩
  | 94 => ⟨S1x2048x8, .f32⟩
  | 95 => ⟨S2048x8, .f32⟩
  | 96 => ⟨S8x2048, .f32⟩
  | 97 => ⟨S2048x2048, .f32⟩
  | 98 => ⟨S2048x2048, .f32⟩
  | 99 => ⟨S1x8x768, .f32⟩
  | 100 => ⟨S8x768, .f32⟩
  | 101 => ⟨S768x8, .f32⟩
  | 102 => ⟨S2048x8, .f32⟩
  | 103 => ⟨S1x2048x8, .f32⟩
  | 104 => ⟨S2048x8, .f32⟩
  | 105 => ⟨S8x2048, .f32⟩
  | 106 => ⟨S2048x2048, .f32⟩
  | 107 => ⟨S2048x2048, .f32⟩
  | 108 => ⟨S2048x2048, .f32⟩
  | 109 => ⟨S2048x2048, .f32⟩
  | 110 => ⟨S_, .f32⟩
  | 111 => ⟨S2048x2048, .f32⟩
  | 112 => ⟨S2048x2048, .f32⟩
  | 113 => ⟨S_, .f32⟩
  | 114 => ⟨S2048x2048, .f32⟩
  | 115 => ⟨S2048x2048, .f32⟩
  | 116 => ⟨S2048x2048, .f32⟩
  | 117 => ⟨S2048x2048, .f32⟩
  | 118 => ⟨S2048x768, .f32⟩
  | 119 => ⟨S2048x768, .f32⟩
  | 120 => ⟨S1x8x2048, .f32⟩
  | 121 => ⟨S8x2048, .f32⟩
  | 122 => ⟨S2048x8, .f32⟩
  | 123 => ⟨S2048x8, .f32⟩
  | 124 => ⟨S1x768x8, .f32⟩
  | 125 => ⟨S768x8, .f32⟩
  | 126 => ⟨S8x768, .f32⟩
  | 127 => ⟨S2048x768, .f32⟩
  | _ => ⟨S2048x768, .f32⟩

abbrev hbmTy0_1 (i : Nat) : BufTy := match i % 128 with
  | 0 => ⟨S2048x768, .f32⟩
  | 1 => ⟨S_, .i32⟩
  | 2 => ⟨S2048x2, .i32⟩
  | 3 => ⟨S2048x2, .i1⟩
  | 4 => ⟨S2048x2, .f32⟩
  | 5 => ⟨S2048x2, .f32⟩
  | 6 => ⟨S_, .f32⟩
  | 7 => ⟨S2048, .f32⟩
  | 8 => ⟨S2048x1, .f32⟩
  | 9 => ⟨S2048x768, .f32⟩
  | 10 => ⟨S2048x768, .f32⟩
  | 11 => ⟨S2048x768, .f32⟩
  | 12 => ⟨S1x8x768, .f32⟩
  | 13 => ⟨S8x768, .f32⟩
  | 14 => ⟨S768x8, .f32⟩
  | 15 => ⟨S2048x8, .f32⟩
  | 16 => ⟨S1x2048x8, .f32⟩
  | 17 => ⟨S2048x8, .f32⟩
  | 18 => ⟨S8x2048, .f32⟩
  | 19 => ⟨S2048x2048, .f32⟩
  | 20 => ⟨S2048x2048, .f32⟩
  | 21 => ⟨S1x8x768, .f32⟩
  | 22 => ⟨S8x768, .f32⟩
  | 23 => ⟨S768x8, .f32⟩
  | 24 => ⟨S2048x8, .f32⟩
  | 25 => ⟨S1x2048x8, .f32⟩
  | 26 => ⟨S2048x8, .f32⟩
  | 27 => ⟨S8x2048, .f32⟩
  | 28 => ⟨S2048x2048, .f32⟩
  | 29 => ⟨S2048x2048, .f32⟩
  | 30 => ⟨S2048x2048, .f32⟩
  | 31 => ⟨S2048x2048, .f32⟩
  | 32 => ⟨S_, .f32⟩
  | 33 => ⟨S2048x2048, .f32⟩
  | 34 => ⟨S2048x2048, .f32⟩
  | 35 => ⟨S_, .f32⟩
  | 36 => ⟨S2048x2048, .f32⟩
  | 37 => ⟨S2048x2048, .f32⟩
  | 38 => ⟨S2048x2048, .f32⟩
  | 39 => ⟨S2048x2048, .f32⟩
  | 40 => ⟨S2048x768, .f32⟩
  | 41 => ⟨S2048x768, .f32⟩
  | 42 => ⟨S1x8x2048, .f32⟩
  | 43 => ⟨S8x2048, .f32⟩
  | 44 => ⟨S2048x8, .f32⟩
  | 45 => ⟨S2048x8, .f32⟩
  | 46 => ⟨S1x768x8, .f32⟩
  | 47 => ⟨S768x8, .f32⟩
  | 48 => ⟨S8x768, .f32⟩
  | 49 => ⟨S2048x768, .f32⟩
  | 50 => ⟨S2048x768, .f32⟩
  | 51 => ⟨S_, .i32⟩
  | 52 => ⟨S2048x2, .i32⟩
  | 53 => ⟨S2048x2, .i1⟩
  | 54 => ⟨S2048x2, .f32⟩
  | 55 => ⟨S2048x2, .f32⟩
  | 56 => ⟨S_, .f32⟩
  | 57 => ⟨S2048, .f32⟩
  | 58 => ⟨S2048x1, .f32⟩
  | 59 => ⟨S2048x768, .f32⟩
  | 60 => ⟨S2048x768, .f32⟩
  | 61 => ⟨S2048x768, .f32⟩
  | 62 => ⟨S1x8x768, .f32⟩
  | 63 => ⟨S8x768, .f32⟩
  | 64 => ⟨S768x8, .f32⟩
  | 65 => ⟨S2048x8, .f32⟩
  | 66 => ⟨S1x2048x8, .f32⟩
  | 67 => ⟨S2048x8, .f32⟩
  | 68 => ⟨S8x2048, .f32⟩
  | 69 => ⟨S2048x2048, .f32⟩
  | 70 => ⟨S2048x2048, .f32⟩
  | 71 => ⟨S1x8x768, .f32⟩
  | 72 => ⟨S8x768, .f32⟩
  | 73 => ⟨S768x8, .f32⟩
  | 74 => ⟨S2048x8, .f32⟩
  | 75 => ⟨S1x2048x8, .f32⟩
  | 76 => ⟨S2048x8, .f32⟩
  | 77 => ⟨S8x2048, .f32⟩
  | 78 => ⟨S2048x2048, .f32⟩
  | 79 => ⟨S2048x2048, .f32⟩
  | 80 => ⟨S2048x2048, .f32⟩
  | 81 => ⟨S2048x2048, .f32⟩
  | 82 => ⟨S_, .f32⟩
  | 83 => ⟨S2048x2048, .f32⟩
  | 84 => ⟨S2048x2048, .f32⟩
  | 85 => ⟨S_, .f32⟩
  | 86 => ⟨S2048x2048, .f32⟩
  | 87 => ⟨S2048x2048, .f32⟩
  | 88 => ⟨S2048x2048, .f32⟩
  | 89 => ⟨S2048x2048, .f32⟩
  | 90 => ⟨S2048x768, .f32⟩
  | 91 => ⟨S2048x768, .f32⟩
  | 92 => ⟨S1x8x2048, .f32⟩
  | 93 => ⟨S8x2048, .f32⟩
  | 94 => ⟨S2048x8, .f32⟩
  | 95 => ⟨S2048x8, .f32⟩
  | 96 => ⟨S1x768x8, .f32⟩
  | 97 => ⟨S768x8, .f32⟩
  | 98 => ⟨S8x768, .f32⟩
  | 99 => ⟨S2048x768, .f32⟩
  | 100 => ⟨S2048x768, .f32⟩
  | 101 => ⟨S_, .i32⟩
  | 102 => ⟨S2048x2, .i32⟩
  | 103 => ⟨S2048x2, .i1⟩
  | 104 => ⟨S2048x2, .f32⟩
  | 105 => ⟨S2048x2, .f32⟩
  | 106 => ⟨S_, .f32⟩
  | 107 => ⟨S2048, .f32⟩
  | 108 => ⟨S2048x1, .f32⟩
  | 109 => ⟨S2048x768, .f32⟩
  | 110 => ⟨S2048x768, .f32⟩
  | 111 => ⟨S2048x768, .f32⟩
  | 112 => ⟨S1x8x768, .f32⟩
  | 113 => ⟨S8x768, .f32⟩
  | 114 => ⟨S768x8, .f32⟩
  | 115 => ⟨S2048x8, .f32⟩
  | 116 => ⟨S1x2048x8, .f32⟩
  | 117 => ⟨S2048x8, .f32⟩
  | 118 => ⟨S8x2048, .f32⟩
  | 119 => ⟨S2048x2048, .f32⟩
  | 120 => ⟨S2048x2048, .f32⟩
  | 121 => ⟨S1x8x768, .f32⟩
  | 122 => ⟨S8x768, .f32⟩
  | 123 => ⟨S768x8, .f32⟩
  | 124 => ⟨S2048x8, .f32⟩
  | 125 => ⟨S1x2048x8, .f32⟩
  | 126 => ⟨S2048x8, .f32⟩
  | 127 => ⟨S8x2048, .f32⟩
  | _ => ⟨S2048x768, .f32⟩

abbrev hbmTy0_2 (i : Nat) : BufTy := match i % 128 with
  | 0 => ⟨S2048x2048, .f32⟩
  | 1 => ⟨S2048x2048, .f32⟩
  | 2 => ⟨S2048x2048, .f32⟩
  | 3 => ⟨S2048x2048, .f32⟩
  | 4 => ⟨S_, .f32⟩
  | 5 => ⟨S2048x2048, .f32⟩
  | 6 => ⟨S2048x2048, .f32⟩
  | 7 => ⟨S_, .f32⟩
  | 8 => ⟨S2048x2048, .f32⟩
  | 9 => ⟨S2048x2048, .f32⟩
  | 10 => ⟨S2048x2048, .f32⟩
  | 11 => ⟨S2048x2048, .f32⟩
  | 12 => ⟨S2048x768, .f32⟩
  | 13 => ⟨S2048x768, .f32⟩
  | 14 => ⟨S1x8x2048, .f32⟩
  | 15 => ⟨S8x2048, .f32⟩
  | 16 => ⟨S2048x8, .f32⟩
  | 17 => ⟨S2048x8, .f32⟩
  | 18 => ⟨S1x768x8, .f32⟩
  | 19 => ⟨S768x8, .f32⟩
  | 20 => ⟨S8x768, .f32⟩
  | 21 => ⟨S2048x768, .f32⟩
  | 22 => ⟨S2048x768, .f32⟩
  | 23 => ⟨S_, .i32⟩
  | 24 => ⟨S2048x2, .i32⟩
  | 25 => ⟨S2048x2, .i1⟩
  | 26 => ⟨S2048x2, .f32⟩
  | 27 => ⟨S2048x2, .f32⟩
  | 28 => ⟨S_, .f32⟩
  | 29 => ⟨S2048, .f32⟩
  | 30 => ⟨S2048x1, .f32⟩
  | 31 => ⟨S2048x768, .f32⟩
  | 32 => ⟨S2048x768, .f32⟩
  | 33 => ⟨S2048x768, .f32⟩
  | 34 => ⟨S1x8x768, .f32⟩
  | 35 => ⟨S8x768, .f32⟩
  | 36 => ⟨S768x8, .f32⟩
  | 37 => ⟨S2048x8, .f32⟩
  | 38 => ⟨S1x2048x8, .f32⟩
  | 39 => ⟨S2048x8, .f32⟩
  | 40 => ⟨S8x2048, .f32⟩
  | 41 => ⟨S2048x2048, .f32⟩
  | 42 => ⟨S2048x2048, .f32⟩
  | 43 => ⟨S1x8x768, .f32⟩
  | 44 => ⟨S8x768, .f32⟩
  | 45 => ⟨S768x8, .f32⟩
  | 46 => ⟨S2048x8, .f32⟩
  | 47 => ⟨S1x2048x8, .f32⟩
  | 48 => ⟨S2048x8, .f32⟩
  | 49 => ⟨S8x2048, .f32⟩
  | 50 => ⟨S2048x2048, .f32⟩
  | 51 => ⟨S2048x2048, .f32⟩
  | 52 => ⟨S2048x2048, .f32⟩
  | 53 => ⟨S2048x2048, .f32⟩
  | 54 => ⟨S_, .f32⟩
  | 55 => ⟨S2048x2048, .f32⟩
  | 56 => ⟨S2048x2048, .f32⟩
  | 57 => ⟨S_, .f32⟩
  | 58 => ⟨S2048x2048, .f32⟩
  | 59 => ⟨S2048x2048, .f32⟩
  | 60 => ⟨S2048x2048, .f32⟩
  | 61 => ⟨S2048x2048, .f32⟩
  | 62 => ⟨S2048x768, .f32⟩
  | 63 => ⟨S2048x768, .f32⟩
  | 64 => ⟨S1x8x2048, .f32⟩
  | 65 => ⟨S8x2048, .f32⟩
  | 66 => ⟨S2048x8, .f32⟩
  | 67 => ⟨S2048x8, .f32⟩
  | 68 => ⟨S1x768x8, .f32⟩
  | 69 => ⟨S768x8, .f32⟩
  | 70 => ⟨S8x768, .f32⟩
  | 71 => ⟨S2048x768, .f32⟩
  | 72 => ⟨S2048x768, .f32⟩
  | 73 => ⟨S_, .i32⟩
  | 74 => ⟨S2048x2, .i32⟩
  | 75 => ⟨S2048x2, .i1⟩
  | 76 => ⟨S2048x2, .f32⟩
  | 77 => ⟨S2048x2, .f32⟩
  | 78 => ⟨S_, .f32⟩
  | 79 => ⟨S2048, .f32⟩
  | 80 => ⟨S2048x1, .f32⟩
  | 81 => ⟨S2048x768, .f32⟩
  | 82 => ⟨S2048x768, .f32⟩
  | 83 => ⟨S2048x768, .f32⟩
  | 84 => ⟨S1x8x768, .f32⟩
  | 85 => ⟨S8x768, .f32⟩
  | 86 => ⟨S768x8, .f32⟩
  | 87 => ⟨S2048x8, .f32⟩
  | 88 => ⟨S1x2048x8, .f32⟩
  | 89 => ⟨S2048x8, .f32⟩
  | 90 => ⟨S8x2048, .f32⟩
  | 91 => ⟨S2048x2048, .f32⟩
  | 92 => ⟨S2048x2048, .f32⟩
  | 93 => ⟨S1x8x768, .f32⟩
  | 94 => ⟨S8x768, .f32⟩
  | 95 => ⟨S768x8, .f32⟩
  | 96 => ⟨S2048x8, .f32⟩
  | 97 => ⟨S1x2048x8, .f32⟩
  | 98 => ⟨S2048x8, .f32⟩
  | 99 => ⟨S8x2048, .f32⟩
  | 100 => ⟨S2048x2048, .f32⟩
  | 101 => ⟨S2048x2048, .f32⟩
  | 102 => ⟨S2048x2048, .f32⟩
  | 103 => ⟨S2048x2048, .f32⟩
  | 104 => ⟨S_, .f32⟩
  | 105 => ⟨S2048x2048, .f32⟩
  | 106 => ⟨S2048x2048, .f32⟩
  | 107 => ⟨S_, .f32⟩
  | 108 => ⟨S2048x2048, .f32⟩
  | 109 => ⟨S2048x2048, .f32⟩
  | 110 => ⟨S2048x2048, .f32⟩
  | 111 => ⟨S2048x2048, .f32⟩
  | 112 => ⟨S2048x768, .f32⟩
  | 113 => ⟨S2048x768, .f32⟩
  | 114 => ⟨S1x8x2048, .f32⟩
  | 115 => ⟨S8x2048, .f32⟩
  | 116 => ⟨S2048x8, .f32⟩
  | 117 => ⟨S2048x8, .f32⟩
  | 118 => ⟨S1x768x8, .f32⟩
  | 119 => ⟨S768x8, .f32⟩
  | 120 => ⟨S8x768, .f32⟩
  | 121 => ⟨S2048x768, .f32⟩
  | 122 => ⟨S2048x768, .f32⟩
  | 123 => ⟨S_, .i32⟩
  | 124 => ⟨S2048x2, .i32⟩
  | 125 => ⟨S2048x2, .i1⟩
  | 126 => ⟨S2048x2, .f32⟩
  | 127 => ⟨S2048x2, .f32⟩
  | _ => ⟨S2048x768, .f32⟩

abbrev hbmTy0_3 (i : Nat) : BufTy := match i % 128 with
  | 0 => ⟨S_, .f32⟩
  | 1 => ⟨S2048, .f32⟩
  | 2 => ⟨S2048x1, .f32⟩
  | 3 => ⟨S2048x768, .f32⟩
  | 4 => ⟨S2048x768, .f32⟩
  | 5 => ⟨S2048x768, .f32⟩
  | 6 => ⟨S1x8x768, .f32⟩
  | 7 => ⟨S8x768, .f32⟩
  | 8 => ⟨S768x8, .f32⟩
  | 9 => ⟨S2048x8, .f32⟩
  | 10 => ⟨S1x2048x8, .f32⟩
  | 11 => ⟨S2048x8, .f32⟩
  | 12 => ⟨S8x2048, .f32⟩
  | 13 => ⟨S2048x2048, .f32⟩
  | 14 => ⟨S2048x2048, .f32⟩
  | 15 => ⟨S1x8x768, .f32⟩
  | 16 => ⟨S8x768, .f32⟩
  | 17 => ⟨S768x8, .f32⟩
  | 18 => ⟨S2048x8, .f32⟩
  | 19 => ⟨S1x2048x8, .f32⟩
  | 20 => ⟨S2048x8, .f32⟩
  | 21 => ⟨S8x2048, .f32⟩
  | 22 => ⟨S2048x2048, .f32⟩
  | 23 => ⟨S2048x2048, .f32⟩
  | 24 => ⟨S2048x2048, .f32⟩
  | 25 => ⟨S2048x2048, .f32⟩
  | 26 => ⟨S_, .f32⟩
  | 27 => ⟨S2048x2048, .f32⟩
  | 28 => ⟨S2048x2048, .f32⟩
  | 29 => ⟨S_, .f32⟩
  | 30 => ⟨S2048x2048, .f32⟩
  | 31 => ⟨S2048x2048, .f32⟩
  | 32 => ⟨S2048x2048, .f32⟩
  | 33 => ⟨S2048x2048, .f32⟩
  | 34 => ⟨S2048x768, .f32⟩
  | 35 => ⟨S2048x768, .f32⟩
  | 36 => ⟨S1x8x2048, .f32⟩
  | 37 => ⟨S8x2048, .f32⟩
  | 38 => ⟨S2048x8, .f32⟩
  | 39 => ⟨S2048x8, .f32⟩
  | 40 => ⟨S1x768x8, .f32⟩
  | 41 => ⟨S768x8, .f32⟩
  | 42 => ⟨S8x768, .f32⟩
  | 43 => ⟨S2048x768, .f32⟩
  | 44 => ⟨S2048x768, .f32⟩
  | 45 => ⟨S_, .i32⟩
  | 46 => ⟨S2048x2, .i32⟩
  | 47 => ⟨S2048x2, .i1⟩
  | 48 => ⟨S2048x2, .f32⟩
  | 49 => ⟨S2048x2, .f32⟩
  | 50 => ⟨S_, .f32⟩
  | 51 => ⟨S2048, .f32⟩
  | 52 => ⟨S2048x1, .f32⟩
  | 53 => ⟨S2048x768, .f32⟩
  | 54 => ⟨S2048x768, .f32⟩
  | 55 => ⟨S2048x768, .f32⟩
  | _ => ⟨S2048x768, .f32⟩

abbrev hbmTy (i : Nat) : BufTy := match i / 128 with
  | 0 => hbmTy0_0 i
  | 1 => hbmTy0_1 i
  | 2 => hbmTy0_2 i
  | 3 => hbmTy0_3 i
  | _ => ⟨S2048x768, .f32⟩

abbrev bufTy : (tb : Table) → Fin (tcTables nBuf tb) → BufTy
  | .hbm, ⟨i, _⟩ => hbmTy i
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_values : Ref sig .tc := ⟨.hbm, 31, rfl⟩
abbrev main_indices : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_call0_v5 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_4 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_call1_v0 : Ref sig .tc := ⟨.hbm, 108, rfl⟩
abbrev main_call1_v1 : Ref sig .tc := ⟨.hbm, 109, rfl⟩
abbrev main_call1_cst : Ref sig .tc := ⟨.hbm, 110, rfl⟩
abbrev main_call1_v2 : Ref sig .tc := ⟨.hbm, 111, rfl⟩
abbrev main_call1_v3 : Ref sig .tc := ⟨.hbm, 112, rfl⟩
abbrev main_call1_cst_0 : Ref sig .tc := ⟨.hbm, 113, rfl⟩
abbrev main_call1_v4 : Ref sig .tc := ⟨.hbm, 114, rfl⟩
abbrev main_call1_v5 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_c_5 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_6 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_call2_v0 : Ref sig .tc := ⟨.hbm, 158, rfl⟩
abbrev main_call2_v1 : Ref sig .tc := ⟨.hbm, 159, rfl⟩
abbrev main_call2_cst : Ref sig .tc := ⟨.hbm, 160, rfl⟩
abbrev main_call2_v2 : Ref sig .tc := ⟨.hbm, 161, rfl⟩
abbrev main_call2_v3 : Ref sig .tc := ⟨.hbm, 162, rfl⟩
abbrev main_call2_cst_0 : Ref sig .tc := ⟨.hbm, 163, rfl⟩
abbrev main_call2_v4 : Ref sig .tc := ⟨.hbm, 164, rfl⟩
abbrev main_call2_v5 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_c_7 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_cst_8 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_call3_v0 : Ref sig .tc := ⟨.hbm, 208, rfl⟩
abbrev main_call3_v1 : Ref sig .tc := ⟨.hbm, 209, rfl⟩
abbrev main_call3_cst : Ref sig .tc := ⟨.hbm, 210, rfl⟩
abbrev main_call3_v2 : Ref sig .tc := ⟨.hbm, 211, rfl⟩
abbrev main_call3_v3 : Ref sig .tc := ⟨.hbm, 212, rfl⟩
abbrev main_call3_cst_0 : Ref sig .tc := ⟨.hbm, 213, rfl⟩
abbrev main_call3_v4 : Ref sig .tc := ⟨.hbm, 214, rfl⟩
abbrev main_call3_v5 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_c_9 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_cst_10 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_call4_v0 : Ref sig .tc := ⟨.hbm, 258, rfl⟩
abbrev main_call4_v1 : Ref sig .tc := ⟨.hbm, 259, rfl⟩
abbrev main_call4_cst : Ref sig .tc := ⟨.hbm, 260, rfl⟩
abbrev main_call4_v2 : Ref sig .tc := ⟨.hbm, 261, rfl⟩
abbrev main_call4_v3 : Ref sig .tc := ⟨.hbm, 262, rfl⟩
abbrev main_call4_cst_0 : Ref sig .tc := ⟨.hbm, 263, rfl⟩
abbrev main_call4_v4 : Ref sig .tc := ⟨.hbm, 264, rfl⟩
abbrev main_call4_v5 : Ref sig .tc := ⟨.hbm, 265, rfl⟩
abbrev main_v200 : Ref sig .tc := ⟨.hbm, 266, rfl⟩
abbrev main_v201 : Ref sig .tc := ⟨.hbm, 267, rfl⟩
abbrev main_v202 : Ref sig .tc := ⟨.hbm, 268, rfl⟩
abbrev main_v203 : Ref sig .tc := ⟨.hbm, 269, rfl⟩
abbrev main_v204 : Ref sig .tc := ⟨.hbm, 270, rfl⟩
abbrev main_v205 : Ref sig .tc := ⟨.hbm, 271, rfl⟩
abbrev main_v206 : Ref sig .tc := ⟨.hbm, 272, rfl⟩
abbrev main_v207 : Ref sig .tc := ⟨.hbm, 273, rfl⟩
abbrev main_v208 : Ref sig .tc := ⟨.hbm, 274, rfl⟩
abbrev main_v209 : Ref sig .tc := ⟨.hbm, 275, rfl⟩
abbrev main_v210 : Ref sig .tc := ⟨.hbm, 276, rfl⟩
abbrev main_v211 : Ref sig .tc := ⟨.hbm, 277, rfl⟩
abbrev main_v212 : Ref sig .tc := ⟨.hbm, 278, rfl⟩
abbrev main_c_11 : Ref sig .tc := ⟨.hbm, 279, rfl⟩
abbrev main_v213 : Ref sig .tc := ⟨.hbm, 280, rfl⟩
abbrev main_v214 : Ref sig .tc := ⟨.hbm, 281, rfl⟩
abbrev main_v215 : Ref sig .tc := ⟨.hbm, 282, rfl⟩
abbrev main_v216 : Ref sig .tc := ⟨.hbm, 283, rfl⟩
abbrev main_cst_12 : Ref sig .tc := ⟨.hbm, 284, rfl⟩
abbrev main_v217 : Ref sig .tc := ⟨.hbm, 285, rfl⟩
abbrev main_v218 : Ref sig .tc := ⟨.hbm, 286, rfl⟩
abbrev main_v219 : Ref sig .tc := ⟨.hbm, 287, rfl⟩
abbrev main_v220 : Ref sig .tc := ⟨.hbm, 288, rfl⟩
abbrev main_v221 : Ref sig .tc := ⟨.hbm, 289, rfl⟩
abbrev main_v222 : Ref sig .tc := ⟨.hbm, 290, rfl⟩
abbrev main_v223 : Ref sig .tc := ⟨.hbm, 291, rfl⟩
abbrev main_v224 : Ref sig .tc := ⟨.hbm, 292, rfl⟩
abbrev main_v225 : Ref sig .tc := ⟨.hbm, 293, rfl⟩
abbrev main_v226 : Ref sig .tc := ⟨.hbm, 294, rfl⟩
abbrev main_v227 : Ref sig .tc := ⟨.hbm, 295, rfl⟩
abbrev main_v228 : Ref sig .tc := ⟨.hbm, 296, rfl⟩
abbrev main_v229 : Ref sig .tc := ⟨.hbm, 297, rfl⟩
abbrev main_v230 : Ref sig .tc := ⟨.hbm, 298, rfl⟩
abbrev main_v231 : Ref sig .tc := ⟨.hbm, 299, rfl⟩
abbrev main_v232 : Ref sig .tc := ⟨.hbm, 300, rfl⟩
abbrev main_v233 : Ref sig .tc := ⟨.hbm, 301, rfl⟩
abbrev main_v234 : Ref sig .tc := ⟨.hbm, 302, rfl⟩
abbrev main_v235 : Ref sig .tc := ⟨.hbm, 303, rfl⟩
abbrev main_v236 : Ref sig .tc := ⟨.hbm, 304, rfl⟩
abbrev main_v237 : Ref sig .tc := ⟨.hbm, 305, rfl⟩
abbrev main_v238 : Ref sig .tc := ⟨.hbm, 306, rfl⟩
abbrev main_v239 : Ref sig .tc := ⟨.hbm, 307, rfl⟩
abbrev main_call5_v0 : Ref sig .tc := ⟨.hbm, 308, rfl⟩
abbrev main_call5_v1 : Ref sig .tc := ⟨.hbm, 309, rfl⟩
abbrev main_call5_cst : Ref sig .tc := ⟨.hbm, 310, rfl⟩
abbrev main_call5_v2 : Ref sig .tc := ⟨.hbm, 311, rfl⟩
abbrev main_call5_v3 : Ref sig .tc := ⟨.hbm, 312, rfl⟩
abbrev main_call5_cst_0 : Ref sig .tc := ⟨.hbm, 313, rfl⟩
abbrev main_call5_v4 : Ref sig .tc := ⟨.hbm, 314, rfl⟩
abbrev main_call5_v5 : Ref sig .tc := ⟨.hbm, 315, rfl⟩
abbrev main_v240 : Ref sig .tc := ⟨.hbm, 316, rfl⟩
abbrev main_v241 : Ref sig .tc := ⟨.hbm, 317, rfl⟩
abbrev main_v242 : Ref sig .tc := ⟨.hbm, 318, rfl⟩
abbrev main_v243 : Ref sig .tc := ⟨.hbm, 319, rfl⟩
abbrev main_v244 : Ref sig .tc := ⟨.hbm, 320, rfl⟩
abbrev main_v245 : Ref sig .tc := ⟨.hbm, 321, rfl⟩
abbrev main_v246 : Ref sig .tc := ⟨.hbm, 322, rfl⟩
abbrev main_v247 : Ref sig .tc := ⟨.hbm, 323, rfl⟩
abbrev main_v248 : Ref sig .tc := ⟨.hbm, 324, rfl⟩
abbrev main_v249 : Ref sig .tc := ⟨.hbm, 325, rfl⟩
abbrev main_v250 : Ref sig .tc := ⟨.hbm, 326, rfl⟩
abbrev main_v251 : Ref sig .tc := ⟨.hbm, 327, rfl⟩
abbrev main_v252 : Ref sig .tc := ⟨.hbm, 328, rfl⟩
abbrev main_c_13 : Ref sig .tc := ⟨.hbm, 329, rfl⟩
abbrev main_v253 : Ref sig .tc := ⟨.hbm, 330, rfl⟩
abbrev main_v254 : Ref sig .tc := ⟨.hbm, 331, rfl⟩
abbrev main_v255 : Ref sig .tc := ⟨.hbm, 332, rfl⟩
abbrev main_v256 : Ref sig .tc := ⟨.hbm, 333, rfl⟩
abbrev main_cst_14 : Ref sig .tc := ⟨.hbm, 334, rfl⟩
abbrev main_v257 : Ref sig .tc := ⟨.hbm, 335, rfl⟩
abbrev main_v258 : Ref sig .tc := ⟨.hbm, 336, rfl⟩
abbrev main_v259 : Ref sig .tc := ⟨.hbm, 337, rfl⟩
abbrev main_v260 : Ref sig .tc := ⟨.hbm, 338, rfl⟩
abbrev main_v261 : Ref sig .tc := ⟨.hbm, 339, rfl⟩
abbrev main_v262 : Ref sig .tc := ⟨.hbm, 340, rfl⟩
abbrev main_v263 : Ref sig .tc := ⟨.hbm, 341, rfl⟩
abbrev main_v264 : Ref sig .tc := ⟨.hbm, 342, rfl⟩
abbrev main_v265 : Ref sig .tc := ⟨.hbm, 343, rfl⟩
abbrev main_v266 : Ref sig .tc := ⟨.hbm, 344, rfl⟩
abbrev main_v267 : Ref sig .tc := ⟨.hbm, 345, rfl⟩
abbrev main_v268 : Ref sig .tc := ⟨.hbm, 346, rfl⟩
abbrev main_v269 : Ref sig .tc := ⟨.hbm, 347, rfl⟩
abbrev main_v270 : Ref sig .tc := ⟨.hbm, 348, rfl⟩
abbrev main_v271 : Ref sig .tc := ⟨.hbm, 349, rfl⟩
abbrev main_v272 : Ref sig .tc := ⟨.hbm, 350, rfl⟩
abbrev main_v273 : Ref sig .tc := ⟨.hbm, 351, rfl⟩
abbrev main_v274 : Ref sig .tc := ⟨.hbm, 352, rfl⟩
abbrev main_v275 : Ref sig .tc := ⟨.hbm, 353, rfl⟩
abbrev main_v276 : Ref sig .tc := ⟨.hbm, 354, rfl⟩
abbrev main_v277 : Ref sig .tc := ⟨.hbm, 355, rfl⟩
abbrev main_v278 : Ref sig .tc := ⟨.hbm, 356, rfl⟩
abbrev main_v279 : Ref sig .tc := ⟨.hbm, 357, rfl⟩
abbrev main_call6_v0 : Ref sig .tc := ⟨.hbm, 358, rfl⟩
abbrev main_call6_v1 : Ref sig .tc := ⟨.hbm, 359, rfl⟩
abbrev main_call6_cst : Ref sig .tc := ⟨.hbm, 360, rfl⟩
abbrev main_call6_v2 : Ref sig .tc := ⟨.hbm, 361, rfl⟩
abbrev main_call6_v3 : Ref sig .tc := ⟨.hbm, 362, rfl⟩
abbrev main_call6_cst_0 : Ref sig .tc := ⟨.hbm, 363, rfl⟩
abbrev main_call6_v4 : Ref sig .tc := ⟨.hbm, 364, rfl⟩
abbrev main_call6_v5 : Ref sig .tc := ⟨.hbm, 365, rfl⟩
abbrev main_v280 : Ref sig .tc := ⟨.hbm, 366, rfl⟩
abbrev main_v281 : Ref sig .tc := ⟨.hbm, 367, rfl⟩
abbrev main_v282 : Ref sig .tc := ⟨.hbm, 368, rfl⟩
abbrev main_v283 : Ref sig .tc := ⟨.hbm, 369, rfl⟩
abbrev main_v284 : Ref sig .tc := ⟨.hbm, 370, rfl⟩
abbrev main_v285 : Ref sig .tc := ⟨.hbm, 371, rfl⟩
abbrev main_v286 : Ref sig .tc := ⟨.hbm, 372, rfl⟩
abbrev main_v287 : Ref sig .tc := ⟨.hbm, 373, rfl⟩
abbrev main_v288 : Ref sig .tc := ⟨.hbm, 374, rfl⟩
abbrev main_v289 : Ref sig .tc := ⟨.hbm, 375, rfl⟩
abbrev main_v290 : Ref sig .tc := ⟨.hbm, 376, rfl⟩
abbrev main_v291 : Ref sig .tc := ⟨.hbm, 377, rfl⟩
abbrev main_v292 : Ref sig .tc := ⟨.hbm, 378, rfl⟩
abbrev main_c_15 : Ref sig .tc := ⟨.hbm, 379, rfl⟩
abbrev main_v293 : Ref sig .tc := ⟨.hbm, 380, rfl⟩
abbrev main_v294 : Ref sig .tc := ⟨.hbm, 381, rfl⟩
abbrev main_v295 : Ref sig .tc := ⟨.hbm, 382, rfl⟩
abbrev main_v296 : Ref sig .tc := ⟨.hbm, 383, rfl⟩
abbrev main_cst_16 : Ref sig .tc := ⟨.hbm, 384, rfl⟩
abbrev main_v297 : Ref sig .tc := ⟨.hbm, 385, rfl⟩
abbrev main_v298 : Ref sig .tc := ⟨.hbm, 386, rfl⟩
abbrev main_v299 : Ref sig .tc := ⟨.hbm, 387, rfl⟩
abbrev main_v300 : Ref sig .tc := ⟨.hbm, 388, rfl⟩
abbrev main_v301 : Ref sig .tc := ⟨.hbm, 389, rfl⟩
abbrev main_v302 : Ref sig .tc := ⟨.hbm, 390, rfl⟩
abbrev main_v303 : Ref sig .tc := ⟨.hbm, 391, rfl⟩
abbrev main_v304 : Ref sig .tc := ⟨.hbm, 392, rfl⟩
abbrev main_v305 : Ref sig .tc := ⟨.hbm, 393, rfl⟩
abbrev main_v306 : Ref sig .tc := ⟨.hbm, 394, rfl⟩
abbrev main_v307 : Ref sig .tc := ⟨.hbm, 395, rfl⟩
abbrev main_v308 : Ref sig .tc := ⟨.hbm, 396, rfl⟩
abbrev main_v309 : Ref sig .tc := ⟨.hbm, 397, rfl⟩
abbrev main_v310 : Ref sig .tc := ⟨.hbm, 398, rfl⟩
abbrev main_v311 : Ref sig .tc := ⟨.hbm, 399, rfl⟩
abbrev main_v312 : Ref sig .tc := ⟨.hbm, 400, rfl⟩
abbrev main_v313 : Ref sig .tc := ⟨.hbm, 401, rfl⟩
abbrev main_v314 : Ref sig .tc := ⟨.hbm, 402, rfl⟩
abbrev main_v315 : Ref sig .tc := ⟨.hbm, 403, rfl⟩
abbrev main_v316 : Ref sig .tc := ⟨.hbm, 404, rfl⟩
abbrev main_v317 : Ref sig .tc := ⟨.hbm, 405, rfl⟩
abbrev main_v318 : Ref sig .tc := ⟨.hbm, 406, rfl⟩
abbrev main_v319 : Ref sig .tc := ⟨.hbm, 407, rfl⟩
abbrev main_call7_v0 : Ref sig .tc := ⟨.hbm, 408, rfl⟩
abbrev main_call7_v1 : Ref sig .tc := ⟨.hbm, 409, rfl⟩
abbrev main_call7_cst : Ref sig .tc := ⟨.hbm, 410, rfl⟩
abbrev main_call7_v2 : Ref sig .tc := ⟨.hbm, 411, rfl⟩
abbrev main_call7_v3 : Ref sig .tc := ⟨.hbm, 412, rfl⟩
abbrev main_call7_cst_0 : Ref sig .tc := ⟨.hbm, 413, rfl⟩
abbrev main_call7_v4 : Ref sig .tc := ⟨.hbm, 414, rfl⟩
abbrev main_call7_v5 : Ref sig .tc := ⟨.hbm, 415, rfl⟩
abbrev main_v320 : Ref sig .tc := ⟨.hbm, 416, rfl⟩
abbrev main_v321 : Ref sig .tc := ⟨.hbm, 417, rfl⟩
abbrev main_v322 : Ref sig .tc := ⟨.hbm, 418, rfl⟩
abbrev main_v323 : Ref sig .tc := ⟨.hbm, 419, rfl⟩
abbrev main_v324 : Ref sig .tc := ⟨.hbm, 420, rfl⟩
abbrev main_v325 : Ref sig .tc := ⟨.hbm, 421, rfl⟩
abbrev main_v326 : Ref sig .tc := ⟨.hbm, 422, rfl⟩
abbrev main_v327 : Ref sig .tc := ⟨.hbm, 423, rfl⟩
abbrev main_v328 : Ref sig .tc := ⟨.hbm, 424, rfl⟩
abbrev main_v329 : Ref sig .tc := ⟨.hbm, 425, rfl⟩
abbrev main_v330 : Ref sig .tc := ⟨.hbm, 426, rfl⟩
abbrev main_v331 : Ref sig .tc := ⟨.hbm, 427, rfl⟩
abbrev main_v332 : Ref sig .tc := ⟨.hbm, 428, rfl⟩
abbrev main_c_17 : Ref sig .tc := ⟨.hbm, 429, rfl⟩
abbrev main_v333 : Ref sig .tc := ⟨.hbm, 430, rfl⟩
abbrev main_v334 : Ref sig .tc := ⟨.hbm, 431, rfl⟩
abbrev main_v335 : Ref sig .tc := ⟨.hbm, 432, rfl⟩
abbrev main_v336 : Ref sig .tc := ⟨.hbm, 433, rfl⟩
abbrev main_cst_18 : Ref sig .tc := ⟨.hbm, 434, rfl⟩
abbrev main_v337 : Ref sig .tc := ⟨.hbm, 435, rfl⟩
abbrev main_v338 : Ref sig .tc := ⟨.hbm, 436, rfl⟩
abbrev main_v339 : Ref sig .tc := ⟨.hbm, 437, rfl⟩
abbrev main_v340 : Ref sig .tc := ⟨.hbm, 438, rfl⟩
abbrev main_v341 : Ref sig .tc := ⟨.hbm, 439, rfl⟩

abbrev nD : Nat := 1
abbrev τ : Topo := Topo.v7x

variable {F : FTy → Type} [FloatOps F]
-- ==== Proof.CaseValue.lean ====
/-
  What one grid point of the fused kernel leaves in its output window and in its scratch arrays, as functions of what
  the point reads: the generated runs' pieces read back. The column blocks of the scratch arrays are read one by one.
-/
module

public import proofs.«01_k».proof.Proof.Gen.KernelIdeal.Value

@[expose] public section

noncomputable section

open Idealize.ShloMosaic Idealize.ShloMosaic.TcCoe Idealize.SL.Sem

namespace Cert.KernelIdeal.CaseValue

open Cert.KernelIdeal Cert.KernelIdeal.Gen

variable {F : FTy → Type} [FloatOps F]

/-- The zero offsets of a whole-buffer access. -/
theorem hz : (![0, 0] : Fin 2 → Nat) = fun _ => 0 := funext fun a => by fin_cases a <;> rfl

/-- A block read back right after it was stored. -/
theorem ld_canon_self {Val : EltTy → Type} [∀ e, Nonempty (Val e)] {S : Shape} {e : EltTy} (r : Rect S)
    (w : r.shape.Idx → Val e) (L : List (View.Piece Val S e)) : View.ld (View.canon (⟨r, w⟩ :: L)) r = w :=
  funext fun x => View.canon_cons_emb r w L x

/-- A block read back past the store of a disjoint block. -/
theorem ld_canon_skip {Val : EltTy → Type} [∀ e, Nonempty (Val e)] {S : Shape} {e : EltTy} (r r' : Rect S)
    (w : r.shape.Idx → Val e) (L : List (View.Piece Val S e)) (h : Disjoint r.set r'.set) :
    View.ld (View.canon (⟨r, w⟩ :: L)) r' = View.ld (View.canon L) r' :=
  funext fun x => View.canon_cons_of_not_mem _ L (Finset.disjoint_right.mp h (r'.idx_mem x))

/-- The same for a read stated over the stores alone. -/
theorem readCov_skip {Val : EltTy → Type} [∀ e, Nonempty (Val e)] {S : Shape} {e : EltTy} {sg : RefSig} {κ : Kind} {sp : Space}
    (v : View sg κ sp S e) (r r' : Rect S) (w : r.shape.Idx → Val e) (L : List (View.Piece Val S e)) (h : Disjoint r.set r'.set) :
    v.readCov (⟨r, w⟩ :: L) r'.toLoadRect = v.readCov L r'.toLoadRect := by
  rw [View.readCov_eq_canon', View.readCov_eq_canon']
  exact ld_canon_skip r r' w L h

/-- Two column blocks that start at different multiples of their common width do not meet. -/
theorem cols_disjoint {M N : Nat} {o o' w : Nat}
    (inb : ∀ a, (![0, o] : Fin 2 → Nat) a + (![M, w] : Fin 2 → Nat) a ≤ (⟨2, ![M, N]⟩ : Shape).size a)
    (inb' : ∀ a, (![0, o'] : Fin 2 → Nat) a + (![M, w] : Fin 2 → Nat) a ≤ (⟨2, ![M, N]⟩ : Shape).size a)
    (h : o + w ≤ o' ∨ o' + w ≤ o) :
    Disjoint (Rect.unit (s := (⟨2, ![M, N]⟩ : Shape)) ![0, o] ![M, w] inb).set
      (Rect.unit (s := (⟨2, ![M, N]⟩ : Shape)) ![0, o'] ![M, w] inb').set := by
  rw [Finset.disjoint_left]
  intro y hy hy'
  have h1 := (Rect.mem_set_unit.mp hy) 1
  have h2 := (Rect.mem_set_unit.mp hy') 1
  have e1 : (![0, o] : Fin 2 → Nat) 1 = o := rfl
  have e2 : (![0, o'] : Fin 2 → Nat) 1 = o' := rfl
  have e3 : (![M, w] : Fin 2 → Nat) 1 = w := rfl
  rw [e1, e3] at h1
  rw [e2, e3] at h2
  omega

/-- The first 64 columns of the four-block scratch array. -/
abbrev um0 (X : Vec F S2048x256 .bf16) : Vec F S2048x64 .bf16 := View.ld X (Rect.unit ![0, 0] ![2048, 64] inb_S2048x256_S2048x64_0_0)
/-- The second 64 columns of the four-block scratch array. -/
abbrev um1 (X : Vec F S2048x256 .bf16) : Vec F S2048x64 .bf16 := View.ld X (Rect.unit ![0, 64] ![2048, 64] inb_S2048x256_S2048x64_0_64)
/-- The third 64 columns of the four-block scratch array. -/
abbrev um2 (X : Vec F S2048x256 .bf16) : Vec F S2048x64 .bf16 := View.ld X (Rect.unit ![0, 128] ![2048, 64] inb_S2048x256_S2048x64_0_128)
/-- The last 64 columns of the four-block scratch array. -/
abbrev um3 (X : Vec F S2048x256 .bf16) : Vec F S2048x64 .bf16 := View.ld X (Rect.unit ![0, 192] ![2048, 64] inb_S2048x256_S2048x64_0_192)
/-- The left half of a two-block scratch array. -/
abbrev lo (X : Vec F S2048x128 .f32) : Vec F S2048x64 .f32 := View.ld X (Rect.unit ![0, 0] ![2048, 64] inb_S2048x128_S2048x64_0_0)
/-- The right half of a two-block scratch array. -/
abbrev hi (X : Vec F S2048x128 .f32) : Vec F S2048x64 .f32 := View.ld X (Rect.unit ![0, 64] ![2048, 64] inb_S2048x128_S2048x64_0_64)
/-- The first column of the weight scratch array. -/
abbrev col0 (X : Vec F S2048x128 .f32) : Vec F S2048x1 .f32 := View.ld X (Rect.unit ![0, 0] ![2048, 1] inb_S2048x128_S2048x1_0_0)
/-- The first row block of the stacked small matrices, the gate projection's. -/
abbrev sm0 (X : Vec F S192x256 .bf16) : Vec F S64x256 .bf16 := View.ld X (Rect.unit ![0, 0] ![64, 256] inb_S192x256_S64x256_0_0)
/-- The second row block of the stacked small matrices, the up projection's. -/
abbrev sm1 (X : Vec F S192x256 .bf16) : Vec F S64x256 .bf16 := View.ld X (Rect.unit ![64, 0] ![64, 256] inb_S192x256_S64x256_64_0)
/-- The third row block of the stacked small matrices, the down projection's. -/
abbrev sm2 (X : Vec F S192x256 .bf16) : Vec F S64x256 .bf16 := View.ld X (Rect.unit ![128, 0] ![64, 256] inb_S192x256_S64x256_128_0)

/-- The weighted activation of the first chosen expert over one tile. -/
def s0 (x1 x2 : Vec F S256x768 .f32) (x7 : Vec F S192x256 .bf16) (xs0 : Vec F S2048x768 .bf16) (xs1 : Vec F S2048x256 .bf16)
    (xs2 : Vec F S2048x128 .f32) : Vec F S2048x256 .f32 :=
  k0_pay40 xs0 x1 x2 (sm0 x7) (sm1 x7) (col0 xs2) (um0 xs1) (um1 xs1)
/-- The weighted activation of the second chosen expert over one tile. -/
def s1 (x1 x2 : Vec F S256x768 .f32) (x7 : Vec F S192x256 .bf16) (xs0 : Vec F S2048x768 .bf16) (xs1 : Vec F S2048x256 .bf16)
    (xs2 : Vec F S2048x128 .f32) : Vec F S2048x256 .f32 :=
  k0_pay2 (k0_pay35 xs0 x1) (k0_pay36 xs0 x2) (k0_pay37 (sm0 x7)) (k0_pay38 (sm1 x7)) (col0 xs2) (um2 xs1) (um3 xs1)
/-- One tile's contribution to the output. -/
def con (x1 x2 : Vec F S256x768 .f32) (x3 : Vec F S768x256 .f32) (x7 : Vec F S192x256 .bf16) (xs0 : Vec F S2048x768 .bf16)
    (xs1 : Vec F S2048x256 .bf16) (xs2 : Vec F S2048x128 .f32) : Vec F S2048x768 .f32 :=
  k0_pay4 (k0_pay34 x3) (k0_pay35 xs0 x1) (k0_pay36 xs0 x2) (k0_pay37 (sm0 x7)) (k0_pay38 (sm1 x7)) (col0 xs2)
    (s0 x1 x2 x7 xs0 xs1 xs2) (um2 xs1) (um3 xs1)
/-- One tile's low-rank projection of the first weighted activation. -/
def y0 (x1 x2 : Vec F S256x768 .f32) (x7 : Vec F S192x256 .bf16) (xs0 : Vec F S2048x768 .bf16) (xs1 : Vec F S2048x256 .bf16)
    (xs2 : Vec F S2048x128 .f32) : Vec F S2048x64 .f32 :=
  k0_pay1 (k0_pay39 (sm2 x7)) (k0_pay41 xs0 x1 x2 (sm0 x7) (sm1 x7) (col0 xs2) (um0 xs1) (um1 xs1))
    (constant S2048x64 .f32 0x00000000#32)
/-- One tile's low-rank projection of the second weighted activation. -/
def y1 (x1 x2 : Vec F S256x768 .f32) (x7 : Vec F S192x256 .bf16) (xs0 : Vec F S2048x768 .bf16) (xs1 : Vec F S2048x256 .bf16)
    (xs2 : Vec F S2048x128 .f32) : Vec F S2048x64 .f32 :=
  k0_pay3 (k0_pay35 xs0 x1) (k0_pay36 xs0 x2) (k0_pay37 (sm0 x7)) (k0_pay38 (sm1 x7)) (k0_pay39 (sm2 x7)) (col0 xs2) (um2 xs1) (um3 xs1)

/-- The membership mask of the first chosen expert: one at the eight lanes of that expert. -/
def mask1 (x0 : Vec F S2048x768 .f32) (x4 : Vec F S8x768 .f32) : Vec F S2048x64 .f32 :=
  k0_pay21 (F := F) (k0_pay13 x0 x4) (iota .tc S2048x64 32 [1] iota_S2048x64_d1_w32) 8#32 k0_pay18 k0_pay19 (Scalar.extui (Scalar.cmpi .sgt 8#32 0#32))
/-- The membership mask of the second chosen expert. -/
def mask2 (x0 : Vec F S2048x768 .f32) (x4 : Vec F S8x768 .f32) : Vec F S2048x64 .f32 :=
  k0_pay22 (F := F) (k0_pay16 x0 x4) (iota .tc S2048x64 32 [1] iota_S2048x64_d1_w32) 8#32 k0_pay18 k0_pay19 (Scalar.extui (Scalar.cmpi .sgt 8#32 0#32))

variable (c : Dev nD) (i : grid0.Coords)
  (arg1 : Memref sig .tc .vmem S2048x768 .f32) (harg1 : arg1.IsWhole)
  (arg2 : Memref sig .tc .vmem S256x768 .f32) (harg2 : arg2.IsWhole)
  (arg3 : Memref sig .tc .vmem S256x768 .f32) (harg3 : arg3.IsWhole)
  (arg4 : Memref sig .tc .vmem S768x256 .f32) (harg4 : arg4.IsWhole)
  (arg5 : Memref sig .tc .vmem S8x768 .f32) (harg5 : arg5.IsWhole)
  (arg6 : Memref sig .tc .vmem S64x768 .f32) (harg6 : arg6.IsWhole)
  (arg7 : Memref sig .tc .vmem S64x768 .f32) (harg7 : arg7.IsWhole)
  (arg8 : Memref sig .tc .vmem S192x256 .bf16) (harg8 : arg8.IsWhole)
  (arg9 : Memref sig .tc .vmem S64x768 .bf16) (harg9 : arg9.IsWhole)
  (arg10 : Memref sig .tc .vmem S2048x768 .f32) (harg10 : arg10.IsWhole)
  (arg11 : Memref sig .tc .vmem S2048x768 .bf16) (harg11 : arg11.IsWhole)
  (arg12 : Memref sig .tc .vmem S2048x256 .bf16) (harg12 : arg12.IsWhole)
  (arg13 : Memref sig .tc .vmem S2048x128 .f32) (harg13 : arg13.IsWhole)
  (arg14 : Memref sig .tc .vmem S2048x128 .f32) (harg14 : arg14.IsWhole)
  (arg15 : Memref sig .tc .vmem S2048x128 .f32) (harg15 : arg15.IsWhole)
  (x0 : Vec F S2048x768 .f32) (x1 : Vec F S256x768 .f32) (x2 : Vec F S256x768 .f32) (x3 : Vec F S768x256 .f32) (x4 : Vec F S8x768 .f32) (x5 : Vec F S64x768 .f32) (x6 : Vec F S64x768 .f32) (x7 : Vec F S192x256 .bf16) (x8 : Vec F S64x768 .bf16) (xo9 : Vec F S2048x768 .f32) (xs0 : Vec F S2048x768 .bf16) (xs1 : Vec F S2048x256 .bf16) (xs2 : Vec F S2048x128 .f32) (xs3 : Vec F S2048x128 .f32) (xs4 : Vec F S2048x128 .f32)

/-- A middle point adds its tile's contribution to the output. -/
theorem out_B (hc0 : ¬cond0_0 i) (hc1 : ¬cond0_1 i) (hc2 : cond0_2 i) (hc3 : ¬cond0_3 i) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xo9 xs0 xs1 xs2 xs3 xs4 = addf xo9 (con x1 x2 x3 x7 xs0 xs1 xs2) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xo9 xs0 xs1 xs2 xs3 xs4)]
  unfold kernelRun0_B
  dsimp only
  sl_unfold_words
  rw [View.canon_unit_zero (S := S2048x768) hz]
  unfold k0_pay7
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S2048x768) hz, View.ld_unit_zero (S := S256x768) hz, View.ld_unit_zero (S := S768x256) hz, View.ld_unit_zero (S := S8x768) hz, View.ld_unit_zero (S := S64x768) hz, shapeCast_self]
  rfl

/-- A middle point adds its tile's first low-rank projection to the left half of the accumulator. -/
theorem yac_lo_B (hc0 : ¬cond0_0 i) (hc1 : ¬cond0_1 i) (hc2 : cond0_2 i) (hc3 : ¬cond0_3 i) :
    lo (sout0_B_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xo9 xs0 xs1 xs2 xs3 xs4) = addf (lo xs4) (y0 x1 x2 x7 xs0 xs1 xs2) := by
  unfold sout0_B_4
  rw [View.read_writes_eq_canon _ _ _ (scover0_B_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xo9 xs0 xs1 xs2 xs3 xs4)]
  unfold kernelRun0_B
  dsimp only
  sl_unfold_words
  refine (ld_canon_skip _ _ _ _ (cols_disjoint _ _ (by omega))).trans ((ld_canon_self _ _ _).trans ?_)
  unfold k0_pay8
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S2048x768) hz, View.ld_unit_zero (S := S256x768) hz, View.ld_unit_zero (S := S768x256) hz, View.ld_unit_zero (S := S8x768) hz, View.ld_unit_zero (S := S64x768) hz, shapeCast_self]
  rfl

/-- A middle point adds its tile's second low-rank projection to the right half of the accumulator. -/
theorem yac_hi_B (hc0 : ¬cond0_0 i) (hc1 : ¬cond0_1 i) (hc2 : cond0_2 i) (hc3 : ¬cond0_3 i) :
    hi (sout0_B_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xo9 xs0 xs1 xs2 xs3 xs4) = addf (hi xs4) (y1 x1 x2 x7 xs0 xs1 xs2) := by
  unfold sout0_B_4
  rw [View.read_writes_eq_canon _ _ _ (scover0_B_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xo9 xs0 xs1 xs2 xs3 xs4)]
  unfold kernelRun0_B
  dsimp only
  sl_unfold_words
  refine (ld_canon_self _ _ _).trans ?_
  unfold k0_pay9
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S2048x768) hz, View.ld_unit_zero (S := S256x768) hz, View.ld_unit_zero (S := S768x256) hz, View.ld_unit_zero (S := S8x768) hz, View.ld_unit_zero (S := S64x768) hz, shapeCast_self]
  rfl

/-- The last point adds its tile's contribution and then the low-rank term. -/
theorem out_C (hc0 : ¬cond0_0 i) (hc1 : ¬cond0_1 i) (hc2 : cond0_2 i) (hc3 : cond0_3 i) :
    out0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xo9 xs0 xs1 xs2 xs3 xs4 = k0_pay10 (addf (lo xs4) (y0 x1 x2 x7 xs0 xs1 xs2)) (lo xs3) (addf (hi xs4) (y1 x1 x2 x7 xs0 xs1 xs2)) (hi xs3) (addf xo9 (con x1 x2 x3 x7 xs0 xs1 xs2)) x8 := by
  unfold out0_C_9
  rw [View.read_writes_eq_canon _ _ _ (cover0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xo9 xs0 xs1 xs2 xs3 xs4)]
  unfold kernelRun0_C
  dsimp only
  sl_unfold_words
  rw [View.canon_cons_unit_zero (S := S2048x768) hz]
  rw [View.readCov_unit_zero (S := S2048x768) _ hz,
    readCov_skip _ _ _ _ _ (cols_disjoint inb_S2048x128_S2048x64_0_64 inb_S2048x128_S2048x64_0_0 (by omega)),
    View.readCov_cons_toLoadRect, View.readCov_cons_toLoadRect]
  unfold k0_pay7 k0_pay8 k0_pay9
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S2048x768) hz, View.ld_unit_zero (S := S256x768) hz, View.ld_unit_zero (S := S768x256) hz, View.ld_unit_zero (S := S8x768) hz, View.ld_unit_zero (S := S64x768) hz, shapeCast_self]
  rfl

/-- The last point adds its tile's first low-rank projection to the left half of the accumulator. -/
theorem yac_lo_C (hc0 : ¬cond0_0 i) (hc1 : ¬cond0_1 i) (hc2 : cond0_2 i) (hc3 : cond0_3 i) :
    lo (sout0_C_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xo9 xs0 xs1 xs2 xs3 xs4) = addf (lo xs4) (y0 x1 x2 x7 xs0 xs1 xs2) := by
  unfold sout0_C_4
  rw [View.read_writes_eq_canon _ _ _ (scover0_C_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xo9 xs0 xs1 xs2 xs3 xs4)]
  unfold kernelRun0_C
  dsimp only
  sl_unfold_words
  refine (ld_canon_skip _ _ _ _ (cols_disjoint _ _ (by omega))).trans ((ld_canon_self _ _ _).trans ?_)
  unfold k0_pay8
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S2048x768) hz, View.ld_unit_zero (S := S256x768) hz, View.ld_unit_zero (S := S768x256) hz, View.ld_unit_zero (S := S8x768) hz, View.ld_unit_zero (S := S64x768) hz, shapeCast_self]
  rfl

/-- The last point adds its tile's second low-rank projection to the right half of the accumulator. -/
theorem yac_hi_C (hc0 : ¬cond0_0 i) (hc1 : ¬cond0_1 i) (hc2 : cond0_2 i) (hc3 : cond0_3 i) :
    hi (sout0_C_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xo9 xs0 xs1 xs2 xs3 xs4) = addf (hi xs4) (y1 x1 x2 x7 xs0 xs1 xs2) := by
  unfold sout0_C_4
  rw [View.read_writes_eq_canon _ _ _ (scover0_C_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xo9 xs0 xs1 xs2 xs3 xs4)]
  unfold kernelRun0_C
  dsimp only
  sl_unfold_words
  refine (ld_canon_self _ _ _).trans ?_
  unfold k0_pay9
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S2048x768) hz, View.ld_unit_zero (S := S256x768) hz, View.ld_unit_zero (S := S768x256) hz, View.ld_unit_zero (S := S8x768) hz, View.ld_unit_zero (S := S64x768) hz, shapeCast_self]
  rfl

/-- The first point keeps the rounded input rows. -/
theorem xbs_A (hc0 : cond0_0 i) (hc1 : cond0_1 i) (hc2 : ¬cond0_2 i) (hc3 : ¬cond0_3 i) :
    (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8) = truncf .bf16 x0 bitsLt_bf16_f32 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8)]
  unfold kernelRun0_A
  dsimp only
  sl_unfold_words
  rw [View.canon_unit_zero (S := S2048x768) hz]
  unfold k0_pay25
  simp only [View.readAt_eq_ld, harg1.read_unread, harg2.read_unread, harg3.read_unread, harg4.read_unread, harg5.read_unread, harg6.read_unread, harg7.read_unread, harg8.read_unread, harg9.read_unread, View.ld_unit_zero (S := S2048x768) hz, View.ld_unit_zero (S := S256x768) hz, View.ld_unit_zero (S := S768x256) hz, View.ld_unit_zero (S := S8x768) hz, View.ld_unit_zero (S := S64x768) hz, shapeCast_self]

/-- The first point's first block: the gate's low-rank inputs, masked to the first chosen expert. -/
theorem um0_A (hc0 : cond0_0 i) (hc1 : cond0_1 i) (hc2 : ¬cond0_2 i) (hc3 : ¬cond0_3 i) :
    um0 (sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8) = truncf .bf16 (mulf (k0_pay23 x0 x5) (mask1 x0 x4)) bitsLt_bf16_f32 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8)]
  unfold kernelRun0_A
  dsimp only
  sl_unfold_words
  refine (ld_canon_skip _ _ _ _ (cols_disjoint _ _ (by omega))).trans ((ld_canon_skip _ _ _ _ (cols_disjoint _ _ (by omega))).trans ((ld_canon_skip _ _ _ _ (cols_disjoint _ _ (by omega))).trans ((ld_canon_self _ _ _).trans ?_)))
  unfold k0_pay26
  simp only [View.readAt_eq_ld, harg1.read_unread, harg2.read_unread, harg3.read_unread, harg4.read_unread, harg5.read_unread, harg6.read_unread, harg7.read_unread, harg8.read_unread, harg9.read_unread, View.ld_unit_zero (S := S2048x768) hz, View.ld_unit_zero (S := S256x768) hz, View.ld_unit_zero (S := S768x256) hz, View.ld_unit_zero (S := S8x768) hz, View.ld_unit_zero (S := S64x768) hz, shapeCast_self]
  rfl

/-- The first point's second block: the up projection's low-rank inputs, masked to the first chosen expert. -/
theorem um1_A (hc0 : cond0_0 i) (hc1 : cond0_1 i) (hc2 : ¬cond0_2 i) (hc3 : ¬cond0_3 i) :
    um1 (sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8) = truncf .bf16 (mulf (k0_pay24 x0 x6) (mask1 x0 x4)) bitsLt_bf16_f32 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8)]
  unfold kernelRun0_A
  dsimp only
  sl_unfold_words
  refine (ld_canon_skip _ _ _ _ (cols_disjoint _ _ (by omega))).trans ((ld_canon_skip _ _ _ _ (cols_disjoint _ _ (by omega))).trans ((ld_canon_self _ _ _).trans ?_))
  unfold k0_pay27
  simp only [View.readAt_eq_ld, harg1.read_unread, harg2.read_unread, harg3.read_unread, harg4.read_unread, harg5.read_unread, harg6.read_unread, harg7.read_unread, harg8.read_unread, harg9.read_unread, View.ld_unit_zero (S := S2048x768) hz, View.ld_unit_zero (S := S256x768) hz, View.ld_unit_zero (S := S768x256) hz, View.ld_unit_zero (S := S8x768) hz, View.ld_unit_zero (S := S64x768) hz, shapeCast_self]
  rfl

/-- The first point's third block: the gate's low-rank inputs, masked to the second chosen expert. -/
theorem um2_A (hc0 : cond0_0 i) (hc1 : cond0_1 i) (hc2 : ¬cond0_2 i) (hc3 : ¬cond0_3 i) :
    um2 (sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8) = truncf .bf16 (mulf (k0_pay23 x0 x5) (mask2 x0 x4)) bitsLt_bf16_f32 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8)]
  unfold kernelRun0_A
  dsimp only
  sl_unfold_words
  refine (ld_canon_skip _ _ _ _ (cols_disjoint _ _ (by omega))).trans ((ld_canon_self _ _ _).trans ?_)
  unfold k0_pay29 k0_pay28
  simp only [View.readAt_eq_ld, harg1.read_unread, harg2.read_unread, harg3.read_unread, harg4.read_unread, harg5.read_unread, harg6.read_unread, harg7.read_unread, harg8.read_unread, harg9.read_unread, View.ld_unit_zero (S := S2048x768) hz, View.ld_unit_zero (S := S256x768) hz, View.ld_unit_zero (S := S768x256) hz, View.ld_unit_zero (S := S8x768) hz, View.ld_unit_zero (S := S64x768) hz, shapeCast_self]
  rfl

/-- The first point's last block: the up projection's low-rank inputs, masked to the second chosen expert. -/
theorem um3_A (hc0 : cond0_0 i) (hc1 : cond0_1 i) (hc2 : ¬cond0_2 i) (hc3 : ¬cond0_3 i) :
    um3 (sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8) = truncf .bf16 (mulf (k0_pay24 x0 x6) (mask2 x0 x4)) bitsLt_bf16_f32 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8)]
  unfold kernelRun0_A
  dsimp only
  sl_unfold_words
  refine (ld_canon_self _ _ _).trans ?_
  unfold k0_pay30
  simp only [View.readAt_eq_ld, harg1.read_unread, harg2.read_unread, harg3.read_unread, harg4.read_unread, harg5.read_unread, harg6.read_unread, harg7.read_unread, harg8.read_unread, harg9.read_unread, View.ld_unit_zero (S := S2048x768) hz, View.ld_unit_zero (S := S256x768) hz, View.ld_unit_zero (S := S768x256) hz, View.ld_unit_zero (S := S8x768) hz, View.ld_unit_zero (S := S64x768) hz, shapeCast_self]
  rfl

/-- The first point keeps the first chosen expert's weight in every column. -/
theorem pp_A (hc0 : cond0_0 i) (hc1 : cond0_1 i) (hc2 : ¬cond0_2 i) (hc3 : ¬cond0_3 i) :
    (sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8) = k0_pay31 (k0_pay17 x0 x4) := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8)]
  unfold kernelRun0_A
  dsimp only
  sl_unfold_words
  rw [View.canon_unit_zero (S := S2048x128) hz]
  simp only [View.readAt_eq_ld, harg1.read_unread, harg2.read_unread, harg3.read_unread, harg4.read_unread, harg5.read_unread, harg6.read_unread, harg7.read_unread, harg8.read_unread, harg9.read_unread, View.ld_unit_zero (S := S2048x768) hz, View.ld_unit_zero (S := S256x768) hz, View.ld_unit_zero (S := S768x256) hz, View.ld_unit_zero (S := S8x768) hz, View.ld_unit_zero (S := S64x768) hz, shapeCast_self]

/-- The first point keeps the first chosen expert's mask in the left half. -/
theorem msk_lo_A (hc0 : cond0_0 i) (hc1 : cond0_1 i) (hc2 : ¬cond0_2 i) (hc3 : ¬cond0_3 i) :
    lo (sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8) = mask1 x0 x4 := by
  unfold sout0_A_3
  rw [View.read_writes_eq_canon _ _ _ (scover0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8)]
  unfold kernelRun0_A
  dsimp only
  sl_unfold_words
  refine (ld_canon_skip _ _ _ _ (cols_disjoint _ _ (by omega))).trans ((ld_canon_self _ _ _).trans ?_)
  unfold k0_pay32
  simp only [View.readAt_eq_ld, harg1.read_unread, harg2.read_unread, harg3.read_unread, harg4.read_unread, harg5.read_unread, harg6.read_unread, harg7.read_unread, harg8.read_unread, harg9.read_unread, View.ld_unit_zero (S := S2048x768) hz, View.ld_unit_zero (S := S256x768) hz, View.ld_unit_zero (S := S768x256) hz, View.ld_unit_zero (S := S8x768) hz, View.ld_unit_zero (S := S64x768) hz, shapeCast_self]
  rfl

/-- The first point keeps the second chosen expert's mask in the right half. -/
theorem msk_hi_A (hc0 : cond0_0 i) (hc1 : cond0_1 i) (hc2 : ¬cond0_2 i) (hc3 : ¬cond0_3 i) :
    hi (sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8) = mask2 x0 x4 := by
  unfold sout0_A_3
  rw [View.read_writes_eq_canon _ _ _ (scover0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8)]
  unfold kernelRun0_A
  dsimp only
  sl_unfold_words
  refine (ld_canon_self _ _ _).trans ?_
  unfold k0_pay33
  simp only [View.readAt_eq_ld, harg1.read_unread, harg2.read_unread, harg3.read_unread, harg4.read_unread, harg5.read_unread, harg6.read_unread, harg7.read_unread, harg8.read_unread, harg9.read_unread, View.ld_unit_zero (S := S2048x768) hz, View.ld_unit_zero (S := S256x768) hz, View.ld_unit_zero (S := S768x256) hz, View.ld_unit_zero (S := S8x768) hz, View.ld_unit_zero (S := S64x768) hz, shapeCast_self]
  rfl

/-- The rounded rows that the first point leaves are what its stores spell out. -/
theorem canon0_A (hc0 : cond0_0 i) (hc1 : cond0_1 i) (hc2 : ¬cond0_2 i) (hc3 : ¬cond0_3 i) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 = View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8).2.1 := by
  unfold sout0_A_0
  exact View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8)

/-- The masked low-rank inputs that the first point leaves are what its stores spell out. -/
theorem canon1_A (hc0 : cond0_0 i) (hc1 : cond0_1 i) (hc2 : ¬cond0_2 i) (hc3 : ¬cond0_3 i) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 = View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8).2.2.1 := by
  unfold sout0_A_1
  exact View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8)

/-- The weights that the first point leaves are what its stores spell out. -/
theorem canon2_A (hc0 : cond0_0 i) (hc1 : cond0_1 i) (hc2 : ¬cond0_2 i) (hc3 : ¬cond0_3 i) :
    sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 = View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8).2.2.2.1 := by
  unfold sout0_A_2
  exact View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8)

/-- The first point's output is its tile's contribution, computed from the scratch arrays it has just written. -/
theorem out_A (hc0 : cond0_0 i) (hc1 : cond0_1 i) (hc2 : ¬cond0_2 i) (hc3 : ¬cond0_3 i) :
    (out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8) = con x1 x2 x3 x7 (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8) (sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8) (sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8)]
  rw [canon0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc0 hc1 hc2 hc3, canon1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc0 hc1 hc2 hc3,
    canon2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc0 hc1 hc2 hc3]
  unfold kernelRun0_A
  dsimp only
  sl_unfold_words
  rw [View.canon_unit_zero (S := S2048x768) hz]
  simp only [View.canon_unit_zero (S := S2048x768) hz, View.canon_unit_zero (S := S2048x128) hz, View.readCov_unit_zero (S := S2048x768) _ hz]
  simp only [View.readAt_eq_ld, View.readCov_eq_canon', View.canon_unit_zero (S := S2048x128) hz, harg1.read_unread, harg2.read_unread, harg3.read_unread, harg4.read_unread, harg5.read_unread, harg6.read_unread, harg7.read_unread, harg8.read_unread, harg9.read_unread, View.ld_unit_zero (S := S2048x768) hz, View.ld_unit_zero (S := S256x768) hz, View.ld_unit_zero (S := S768x256) hz, View.ld_unit_zero (S := S8x768) hz, View.ld_unit_zero (S := S64x768) hz, shapeCast_self]
  rfl

/-- The first point starts the accumulator's left half, over scratch arrays given by name. -/
theorem yac_lo_A_of (hc0 : cond0_0 i) (hc1 : cond0_1 i) (hc2 : ¬cond0_2 i) (hc3 : ¬cond0_3 i)
    (X0 : Vec F S2048x768 .bf16) (X1 : Vec F S2048x256 .bf16) (X2 : Vec F S2048x128 .f32) (h0 : X0 = View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8).2.1)
    (h1 : X1 = View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8).2.2.1) (h2 : X2 = View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8).2.2.2.1) :
    lo (sout0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8) = y0 x1 x2 x7 X0 X1 X2 := by
  subst h0 h1 h2
  unfold sout0_A_4
  rw [View.read_writes_eq_canon _ _ _ (scover0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8)]
  unfold kernelRun0_A
  dsimp only
  sl_unfold_words
  refine (ld_canon_skip _ _ _ _ (cols_disjoint _ _ (by omega))).trans ((ld_canon_self _ _ _).trans ?_)
  unfold k0_pay5
  simp only [View.canon_unit_zero (S := S2048x768) hz, View.canon_unit_zero (S := S2048x128) hz, View.readCov_unit_zero (S := S2048x768) _ hz]
  simp only [View.readAt_eq_ld, View.readCov_eq_canon', View.canon_unit_zero (S := S2048x128) hz, harg1.read_unread, harg2.read_unread, harg3.read_unread, harg4.read_unread, harg5.read_unread, harg6.read_unread, harg7.read_unread, harg8.read_unread, harg9.read_unread, View.ld_unit_zero (S := S2048x768) hz, View.ld_unit_zero (S := S256x768) hz, View.ld_unit_zero (S := S768x256) hz, View.ld_unit_zero (S := S8x768) hz, View.ld_unit_zero (S := S64x768) hz, shapeCast_self]
  rfl

/-- The first point starts the accumulator's left half with its tile's first low-rank projection. -/
theorem yac_lo_A (hc0 : cond0_0 i) (hc1 : cond0_1 i) (hc2 : ¬cond0_2 i) (hc3 : ¬cond0_3 i) :
    lo (sout0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8) = y0 x1 x2 x7 (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8) (sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8) (sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8) :=
  yac_lo_A_of c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc0 hc1 hc2 hc3 _ _ _ (canon0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc0 hc1 hc2 hc3) (canon1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc0 hc1 hc2 hc3) (canon2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc0 hc1 hc2 hc3)

/-- The first point starts the accumulator's right half, over scratch arrays given by name. -/
theorem yac_hi_A_of (hc0 : cond0_0 i) (hc1 : cond0_1 i) (hc2 : ¬cond0_2 i) (hc3 : ¬cond0_3 i)
    (X0 : Vec F S2048x768 .bf16) (X1 : Vec F S2048x256 .bf16) (X2 : Vec F S2048x128 .f32) (h0 : X0 = View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8).2.1)
    (h1 : X1 = View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8).2.2.1) (h2 : X2 = View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8).2.2.2.1) :
    hi (sout0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8) = y1 x1 x2 x7 X0 X1 X2 := by
  subst h0 h1 h2
  unfold sout0_A_4
  rw [View.read_writes_eq_canon _ _ _ (scover0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8)]
  unfold kernelRun0_A
  dsimp only
  sl_unfold_words
  refine (ld_canon_self _ _ _).trans ?_
  unfold k0_pay6
  simp only [View.canon_unit_zero (S := S2048x768) hz, View.canon_unit_zero (S := S2048x128) hz, View.readCov_unit_zero (S := S2048x768) _ hz]
  simp only [View.readAt_eq_ld, View.readCov_eq_canon', View.canon_unit_zero (S := S2048x128) hz, harg1.read_unread, harg2.read_unread, harg3.read_unread, harg4.read_unread, harg5.read_unread, harg6.read_unread, harg7.read_unread, harg8.read_unread, harg9.read_unread, View.ld_unit_zero (S := S2048x768) hz, View.ld_unit_zero (S := S256x768) hz, View.ld_unit_zero (S := S768x256) hz, View.ld_unit_zero (S := S8x768) hz, View.ld_unit_zero (S := S64x768) hz, shapeCast_self]
  rfl

/-- The first point starts the accumulator's right half with its tile's second low-rank projection. -/
theorem yac_hi_A (hc0 : cond0_0 i) (hc1 : cond0_1 i) (hc2 : ¬cond0_2 i) (hc3 : ¬cond0_3 i) :
    hi (sout0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8) = y1 x1 x2 x7 (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8) (sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8) (sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8) :=
  yac_hi_A_of c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc0 hc1 hc2 hc3 _ _ _ (canon0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc0 hc1 hc2 hc3) (canon1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc0 hc1 hc2 hc3) (canon2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc0 hc1 hc2 hc3)

end Cert.KernelIdeal.CaseValue

end
-- ==== Proof.Fold.lean ====
/-
  The fused kernel over its eight grid points: the scratch arrays that the first point fills stay as they are, and the
  output window and the low-rank accumulator run up the tiles' contributions as a sum. The last point adds the low-rank
  accumulator's expansion.
-/
module

public import proofs.«01_k».proof.Proof.CaseValue
public import Idealize.ShloMosaic.PureOps.Ideal

@[expose] public section

noncomputable section

open Idealize.ShloMosaic Idealize.ShloMosaic.TcCoe Idealize.SL.Sem

namespace Cert.KernelIdeal.Fold

open Cert.KernelIdeal Cert.KernelIdeal.Gen Cert.KernelIdeal.CaseValue

variable (m : (ℓ : Loc nD τ sig) → Buf (Elt Ideal) ℓ) (c : Dev nD)

/-- The first point lies in the grid. -/
theorem zero_lt : 0 < cfg0.N := lt_of_lt_of_eq (by decide) N_0.symm

/-- The first grid point. -/
abbrev t0 : Fin cfg0.N := ⟨0, zero_lt⟩

/-- The rounded rows of the input, as the first point leaves them in scratch. -/
def XB : Vec Ideal S2048x768 .bf16 := (outsAt0 m c 0 zero_lt).2.1
/-- The masked low-rank projections, as the first point leaves them in scratch. -/
def UM : Vec Ideal S2048x256 .bf16 := (outsAt0 m c 0 zero_lt).2.2.1
/-- The weight of the first chosen expert, as the first point leaves it in scratch. -/
def PP : Vec Ideal S2048x128 .f32 := (outsAt0 m c 0 zero_lt).2.2.2.1
/-- The two membership masks, as the first point leaves them in scratch. -/
def MK : Vec Ideal S2048x128 .f32 := (outsAt0 m c 0 zero_lt).2.2.2.2.1

/-- Tile `k`'s contribution to the output. -/
def conAt (k : ℕ) (i : S2048x768.Idx) : EReal :=
  if h : k < cfg0.N then
    con (iblk m c 1 ⟨k, h⟩) (iblk m c 2 ⟨k, h⟩) (iblk m c 3 ⟨k, h⟩) (iblk m c 7 ⟨k, h⟩) (XB m c) (UM m c) (PP m c) i
  else 0
/-- Tile `k`'s contribution to the first expert's low-rank accumulator. -/
def y0At (k : ℕ) (i : S2048x64.Idx) : EReal :=
  if h : k < cfg0.N then
    y0 (iblk m c 1 ⟨k, h⟩) (iblk m c 2 ⟨k, h⟩) (iblk m c 7 ⟨k, h⟩) (XB m c) (UM m c) (PP m c) i
  else 0
/-- Tile `k`'s contribution to the second expert's low-rank accumulator. -/
def y1At (k : ℕ) (i : S2048x64.Idx) : EReal :=
  if h : k < cfg0.N then
    y1 (iblk m c 1 ⟨k, h⟩) (iblk m c 2 ⟨k, h⟩) (iblk m c 7 ⟨k, h⟩) (XB m c) (UM m c) (PP m c) i
  else 0

/-- What is known after point `n`: the filled scratch is unchanged and the accumulators hold the sums so far. -/
structure Inv (n : ℕ) (hn : n < cfg0.N) : Prop where
  /-- The rounded rows are unchanged. -/
  xb : (outsAt0 m c n hn).2.1 = XB m c
  /-- The masked projections are unchanged. -/
  um : (outsAt0 m c n hn).2.2.1 = UM m c
  /-- The weight is unchanged. -/
  pp : (outsAt0 m c n hn).2.2.2.1 = PP m c
  /-- The masks are unchanged. -/
  msk : (outsAt0 m c n hn).2.2.2.2.1 = MK m c
  /-- The output window holds the sum so far. -/
  out : ∀ i, (outsAt0 m c n hn).1 i = ∑ k ∈ Finset.range (n + 1), conAt m c k i
  /-- The first accumulator holds the sum so far. -/
  lo : ∀ i, lo (outsAt0 m c n hn).2.2.2.2.2 i = ∑ k ∈ Finset.range (n + 1), y0At m c k i
  /-- The second accumulator holds the sum so far. -/
  hi : ∀ i, hi (outsAt0 m c n hn).2.2.2.2.2 i = ∑ k ∈ Finset.range (n + 1), y1At m c k i

/-- After the first point the accumulators hold the first tile's contributions. -/
theorem inv_zero : Inv m c 0 zero_lt := by
  have h0 : (t0).val % 8 = 0 := rfl
  have h2 : ¬1 ≤ (t0).val := by decide
  have h3 : ¬(t0).val % 8 = 7 := by decide
  have e := outsAt0_A m c t0 h0 h0 h2 h3
  refine ⟨rfl, rfl, rfl, rfl, fun i => ?_, fun i => ?_, fun i => ?_⟩
  · have e1 : (outsAt0 m c 0 zero_lt).1 = con (iblk m c 1 t0) (iblk m c 2 t0) (iblk m c 3 t0) (iblk m c 7 t0) (XB m c) (UM m c) (PP m c) := by
      have e1 := congrArg (fun z => z.1) e
      have e2 := congrArg (fun z => z.2.1) e
      have e3 := congrArg (fun z => z.2.2.1) e
      have e4 := congrArg (fun z => z.2.2.2.1) e
      dsimp only at e1 e2 e3 e4
      unfold XB UM PP
      rw [e1, e2, e3, e4]
      exact out_A (F := Ideal) ..
    rw [e1, Finset.sum_range_one, conAt, dif_pos zero_lt]
  · have e1 : CaseValue.lo (outsAt0 m c 0 zero_lt).2.2.2.2.2 = y0 (iblk m c 1 t0) (iblk m c 2 t0) (iblk m c 7 t0) (XB m c) (UM m c) (PP m c) := by
      have e1 := congrArg (fun z => z.2.2.2.2.2) e
      have e2 := congrArg (fun z => z.2.1) e
      have e3 := congrArg (fun z => z.2.2.1) e
      have e4 := congrArg (fun z => z.2.2.2.1) e
      dsimp only at e1 e2 e3 e4
      unfold XB UM PP
      rw [e1, e2, e3, e4]
      exact yac_lo_A (F := Ideal) ..
    rw [e1, Finset.sum_range_one, y0At, dif_pos zero_lt]
  · have e1 : CaseValue.hi (outsAt0 m c 0 zero_lt).2.2.2.2.2 = y1 (iblk m c 1 t0) (iblk m c 2 t0) (iblk m c 7 t0) (XB m c) (UM m c) (PP m c) := by
      have e1 := congrArg (fun z => z.2.2.2.2.2) e
      have e2 := congrArg (fun z => z.2.1) e
      have e3 := congrArg (fun z => z.2.2.1) e
      have e4 := congrArg (fun z => z.2.2.2.1) e
      dsimp only at e1 e2 e3 e4
      unfold XB UM PP
      rw [e1, e2, e3, e4]
      exact yac_hi_A (F := Ideal) ..
    rw [e1, Finset.sum_range_one, y1At, dif_pos zero_lt]

/-- What a point's recursion carries: the output window and the five scratch arrays. -/
abbrev Carry : Type := Vec Ideal S2048x768 .f32 × Vec Ideal S2048x768 .bf16 × Vec Ideal S2048x256 .bf16 × Vec Ideal S2048x128 .f32 × Vec Ideal S2048x128 .f32 × Vec Ideal S2048x128 .f32

section Step
variable (t : Fin cfg0.N) (acc : Carry)

/-- A middle point keeps the four filled scratch arrays. -/
theorem keep_B (h0 : ¬t.val % 8 = 0) (h2 : 1 ≤ t.val) (h3 : ¬t.val % 8 = 7) :
    (Value.stAt0 m c t.val t.isLt acc).2.1 = acc.2.1 ∧ (Value.stAt0 m c t.val t.isLt acc).2.2.1 = acc.2.2.1
      ∧ (Value.stAt0 m c t.val t.isLt acc).2.2.2.1 = acc.2.2.2.1 ∧ (Value.stAt0 m c t.val t.isLt acc).2.2.2.2.1 = acc.2.2.2.2.1 := by
  rw [Value.stAt0_B m c t acc h0 h0 h2 h3]
  exact ⟨rfl, rfl, rfl, rfl⟩

/-- A middle point adds its tile's contribution to the output window. -/
theorem out_step_B (h0 : ¬t.val % 8 = 0) (h2 : 1 ≤ t.val) (h3 : ¬t.val % 8 = 7) :
    (Value.stAt0 m c t.val t.isLt acc).1
      = addf acc.1 (con (iblk m c 1 t) (iblk m c 2 t) (iblk m c 3 t) (iblk m c 7 t) acc.2.1 acc.2.2.1 acc.2.2.2.1) := by
  have e1 := congrArg (fun z => z.1) (Value.stAt0_B m c t acc h0 h0 h2 h3)
  dsimp only at e1
  rw [e1]
  exact out_B (F := Ideal) ..

/-- A middle point adds its tile's contribution to the first low-rank accumulator. -/
theorem lo_step_B (h0 : ¬t.val % 8 = 0) (h2 : 1 ≤ t.val) (h3 : ¬t.val % 8 = 7) :
    CaseValue.lo (Value.stAt0 m c t.val t.isLt acc).2.2.2.2.2
      = addf (CaseValue.lo acc.2.2.2.2.2) (y0 (iblk m c 1 t) (iblk m c 2 t) (iblk m c 7 t) acc.2.1 acc.2.2.1 acc.2.2.2.1) := by
  have e1 := congrArg (fun z => z.2.2.2.2.2) (Value.stAt0_B m c t acc h0 h0 h2 h3)
  dsimp only at e1
  rw [e1]
  exact yac_lo_B (F := Ideal) ..

/-- A middle point adds its tile's contribution to the second low-rank accumulator. -/
theorem hi_step_B (h0 : ¬t.val % 8 = 0) (h2 : 1 ≤ t.val) (h3 : ¬t.val % 8 = 7) :
    CaseValue.hi (Value.stAt0 m c t.val t.isLt acc).2.2.2.2.2
      = addf (CaseValue.hi acc.2.2.2.2.2) (y1 (iblk m c 1 t) (iblk m c 2 t) (iblk m c 7 t) acc.2.1 acc.2.2.1 acc.2.2.2.1) := by
  have e1 := congrArg (fun z => z.2.2.2.2.2) (Value.stAt0_B m c t acc h0 h0 h2 h3)
  dsimp only at e1
  rw [e1]
  exact yac_hi_B (F := Ideal) ..

/-- The last point adds its tile's contributions and then the expanded low-rank accumulators. -/
theorem out_step_C (h0 : ¬t.val % 8 = 0) (h2 : 1 ≤ t.val) (h3 : t.val % 8 = 7) :
    (Value.stAt0 m c t.val t.isLt acc).1
      = k0_pay10 (addf (CaseValue.lo acc.2.2.2.2.2) (y0 (iblk m c 1 t) (iblk m c 2 t) (iblk m c 7 t) acc.2.1 acc.2.2.1 acc.2.2.2.1))
          (CaseValue.lo acc.2.2.2.2.1)
          (addf (CaseValue.hi acc.2.2.2.2.2) (y1 (iblk m c 1 t) (iblk m c 2 t) (iblk m c 7 t) acc.2.1 acc.2.2.1 acc.2.2.2.1))
          (CaseValue.hi acc.2.2.2.2.1)
          (addf acc.1 (con (iblk m c 1 t) (iblk m c 2 t) (iblk m c 3 t) (iblk m c 7 t) acc.2.1 acc.2.2.1 acc.2.2.2.1))
          (iblk m c 8 t) := by
  have e1 := congrArg (fun z => z.1) (Value.stAt0_C m c t acc h0 h0 h2 h3)
  dsimp only at e1
  rw [e1]
  exact out_C (F := Ideal) ..

end Step

/-- A middle point keeps the filled scratch and adds its tile's contributions. -/
theorem inv_succ (n : ℕ) (hn : n + 1 < cfg0.N) (h7 : n + 1 < 7) (ih : Inv m c n (Nat.lt_of_succ_lt hn)) : Inv m c (n + 1) hn := by
  have a0 : ¬(n + 1) % 8 = 0 := by omega
  have a2 : 1 ≤ n + 1 := by omega
  have a3 : ¬(n + 1) % 8 = 7 := by omega
  have e := Value.outsAt0_succ m c n hn
  obtain ⟨hx, hu, hp, hk, ho, hl, hh⟩ := ih
  generalize outsAt0 m c n (Nat.lt_of_succ_lt hn) = acc at e hx hu hp hk ho hl hh
  obtain ⟨k1, k2, k3, k4⟩ := keep_B m c ⟨n + 1, hn⟩ acc a0 a2 a3
  have e1 := out_step_B m c ⟨n + 1, hn⟩ acc a0 a2 a3
  have e2 := lo_step_B m c ⟨n + 1, hn⟩ acc a0 a2 a3
  have e3 := hi_step_B m c ⟨n + 1, hn⟩ acc a0 a2 a3
  rw [hx, hu, hp] at e1 e2 e3
  refine ⟨?_, ?_, ?_, ?_, fun i => ?_, fun i => ?_, fun i => ?_⟩
  · rw [e]; exact k1.trans hx
  · rw [e]; exact k2.trans hu
  · rw [e]; exact k3.trans hp
  · rw [e]; exact k4.trans hk
  · rw [Finset.sum_range_succ, ← ho i, conAt, dif_pos hn, e]
    exact congrFun e1 i
  · rw [Finset.sum_range_succ, ← hl i, y0At, dif_pos hn, e]
    exact congrFun e2 i
  · rw [Finset.sum_range_succ, ← hh i, y1At, dif_pos hn, e]
    exact congrFun e3 i

/-- The invariant holds at every point before the last. -/
theorem inv : ∀ (n : ℕ) (hn : n < cfg0.N), n < 7 → Inv m c n hn
  | 0, _, _ => inv_zero m c
  | n + 1, hn, h7 => inv_succ m c n hn h7 (inv n (Nat.lt_of_succ_lt hn) (by omega))

/-- The last point lies in the grid. -/
theorem seven_lt : 7 < cfg0.N := lt_of_lt_of_eq (by decide) N_0.symm

/-- The kernel's result: the summed tiles, plus the masked low-rank accumulators expanded. -/
theorem result : Value.G9 m c = k0_pay10 (F := Ideal) (fun i => ∑ k ∈ Finset.range 8, y0At m c k i) (CaseValue.lo (MK m c))
    (fun i => ∑ k ∈ Finset.range 8, y1At m c k i) (CaseValue.hi (MK m c)) (fun i => ∑ k ∈ Finset.range 8, conAt m c k i)
    (iblk m c 8 ⟨7, seven_lt⟩) := by
  have h6 : 6 < cfg0.N := lt_of_lt_of_eq (by decide) N_0.symm
  have e := Value.outsAt0_succ m c 6 seven_lt
  rw [Value.G9_last, ← Value.outsAt0_sweep m c 7 seven_lt]
  obtain ⟨hx, hu, hp, hk, ho, hl, hh⟩ := inv m c 6 h6 (by decide)
  rw [show outsAt0 m c 7 seven_lt = _ from e]
  generalize outsAt0 m c 6 h6 = acc at hx hu hp hk ho hl hh
  have e1 := out_step_C m c ⟨7, seven_lt⟩ acc (by decide : ¬7 % 8 = 0) (by decide : 1 ≤ 7) (by decide : 7 % 8 = 7)
  rw [hx, hu, hp, hk] at e1
  have a0 : (fun i => ∑ k ∈ Finset.range 8, y0At m c k i) = _ := funext fun i => by
    rw [Finset.sum_range_succ, ← hl i, y0At, dif_pos seven_lt]
  have a1 : (fun i => ∑ k ∈ Finset.range 8, y1At m c k i) = _ := funext fun i => by
    rw [Finset.sum_range_succ, ← hh i, y1At, dif_pos seven_lt]
  have a2 : (fun i => ∑ k ∈ Finset.range 8, conAt m c k i) = _ := funext fun i => by
    rw [Finset.sum_range_succ, ← ho i, conAt, dif_pos seven_lt]
  rw [a0, a1, a2]
  exact e1

end Cert.KernelIdeal.Fold

end
-- ==== Proof.Spec.lean ====
/-
  The value both programs compute at one row and one output column, as a function of the row and the weights: the kernel's
  form, which applies the routing weights inside, and the regrouping of its lanes and tiles.
-/
module

public import Idealize.ShloMosaic.PureOps.Ideal
public import Idealize.ShloMosaic.Lib.Pointwise

@[expose] public section

noncomputable section

open Idealize.ShloMosaic

namespace Cert.Spec

/-- Lane `8e + r` of the flattened low-rank axis: rank coordinate `r` of expert `e`. -/
abbrev lane (e r : Fin 8) : Fin 64 := ⟨8 * e.val + r.val, by omega⟩
/-- Column `256j + k` of the hidden width: column `k` of tile `j`. -/
abbrev col (j : Fin 8) (k : Fin 256) : Fin 2048 := ⟨256 * j.val + k.val, by omega⟩

/-- A sum over the lanes is the sum over the experts of the sums over their rank coordinates. -/
theorem sum_lane (F : Fin 64 → EReal) : ∑ l, F l = ∑ e, ∑ r, F (lane e r) := by
  rw [← Fintype.sum_prod_type' (f := fun e r => F (lane e r))]
  exact (Fintype.sum_equiv (finProdFinEquiv (m := 8) (n := 8)) _ _ fun x => congrArg F (Fin.ext (Nat.add_comm _ _))).symm

/-- A sum over the hidden width is the sum over the tiles of the sums over their columns. -/
theorem sum_col (F : Fin 2048 → EReal) : ∑ f, F f = ∑ j, ∑ k, F (col j k) := by
  rw [← Fintype.sum_prod_type' (f := fun j k => F (col j k))]
  exact (Fintype.sum_equiv (finProdFinEquiv (m := 8) (n := 256)) _ _ fun x => congrArg F (Fin.ext (Nat.add_comm _ _))).symm

/-- Lanes masked to one expert contribute that expert's terms alone. -/
theorem sum_masked (i : Fin 8) (U B : Fin 64 → EReal) :
    ∑ l : Fin 64, (U l * if l.val / 8 = i.val then 1 else 0) * B l = ∑ r, U (lane i r) * B (lane i r) := by
  rw [sum_lane, Fintype.sum_eq_single i]
  · refine Finset.sum_congr rfl fun r _ => ?_
    rw [if_pos (by show (8 * i.val + r.val) / 8 = i.val; omega), mul_one]
  · intro e he
    refine Finset.sum_eq_zero fun r _ => ?_
    have : ¬(8 * e.val + r.val) / 8 = i.val := fun h => he (Fin.ext (by omega))
    rw [if_neg this, mul_zero, zero_mul]

/-- Two differently masked lane vectors added contribute each its expert's terms. -/
theorem sum_masked₂ (i j : Fin 8) (h : j ≠ i) (U V B : Fin 64 → EReal) :
    ∑ l : Fin 64, ((U l * if l.val / 8 = i.val then 1 else 0) + (V l * if l.val / 8 = j.val then 1 else 0)) * B l
      = ∑ r, U (lane i r) * B (lane i r) + ∑ r, V (lane j r) * B (lane j r) := by
  rw [← sum_masked i U B, ← sum_masked j V B, ← Finset.sum_add_distrib]
  refine Finset.sum_congr rfl fun l _ => ?_
  by_cases h1 : l.val / 8 = i.val
  · rw [if_pos h1, if_neg (fun h2 => h (Fin.ext (h2.symm.trans h1)))]
    simp
  · rw [if_neg h1]
    simp

/-- A gate and up projection joined: the gate passed through its own logistic, times the up projection. -/
def glu (a b : EReal) : EReal := a * Ideal.logistic a * b

variable (x : Fin 768 → EReal) (W1 W3 : Fin 2048 → Fin 768 → EReal) (W2 : Fin 768 → Fin 2048 → EReal)
  (A1 : Fin 8 → Fin 8 → Fin 768 → EReal) (B1 : Fin 8 → Fin 2048 → Fin 8 → EReal)
  (A3 : Fin 8 → Fin 8 → Fin 768 → EReal) (B3 : Fin 8 → Fin 2048 → Fin 8 → EReal)
  (A2 : Fin 8 → Fin 8 → Fin 2048 → EReal) (B2 : Fin 8 → Fin 768 → Fin 8 → EReal)

/-- Expert `e`'s projection: the shared weight's and the expert's own low-rank one. -/
def proj (W : Fin 2048 → Fin 768 → EReal) (A : Fin 8 → Fin 8 → Fin 768 → EReal) (B : Fin 8 → Fin 2048 → Fin 8 → EReal)
    (e : Fin 8) (f : Fin 2048) : EReal :=
  (∑ d, x d * W f d) + ∑ r, (∑ d, x d * A e r d) * B e f r

/-- Expert `e`'s hidden activation. -/
def act (e : Fin 8) (f : Fin 2048) : EReal := glu (proj x W1 A1 B1 e f) (proj x W3 A3 B3 e f)

/-- Expert `e`'s low-rank down projection of a hidden vector. -/
def low (s : Fin 2048 → EReal) (e : Fin 8) (d : Fin 768) : EReal := ∑ r, (∑ f, s f * A2 e r f) * B2 e d r

/-- The kernel's value: the two weighted activations added before the shared down projection, their low-rank ones after. -/
def kernelValue (i j : Fin 8) (p : EReal) (d : Fin 768) : EReal :=
  (∑ f, (act x W1 W3 A1 B1 A3 B3 i f * p + act x W1 W3 A1 B1 A3 B3 j f * (1 - p)) * W2 d f)
    + (low A2 B2 (fun f => act x W1 W3 A1 B1 A3 B3 i f * p) i d
      + low A2 B2 (fun f => act x W1 W3 A1 B1 A3 B3 j f * (1 - p)) j d)

end Cert.Spec

end
-- ==== Proof.BlockRead.lean ====
/-
  The blocks that the fused kernel's windows bring in, entry by entry, as entries of the argument arrays: the tiles of the
  three weight matrices, and the low-rank factors as the host lays them out before the launch.
-/
module

public import proofs.«01_k».proof.Proof.Gen.KernelIdeal.Value
public import proofs.«01_k».proof.Proof.Spec
public import Idealize.ShloMosaic.Lib.Pointwise
public import Idealize.ShloMosaic.Lib.StableHlo.RunRead

@[expose] public section

noncomputable section

open Idealize.ShloMosaic Idealize.ShloMosaic.TcCoe Idealize.SL.Sem

namespace Cert.KernelIdeal.BlockRead

open Cert.KernelIdeal Cert.KernelIdeal.Gen Cert.Spec

variable (m : (ℓ : Loc nD τ sig) → Buf (Elt Ideal) ℓ) (c : Dev nD)

/-- Argument `arg0`'s array, the input rows. -/
abbrev a0 : Vec Ideal S2048x768 .f32 := m ((c : Thread nD τ).loc main_arg0)
/-- Argument `arg1`'s array, the gate projection. -/
abbrev a1 : Vec Ideal S2048x768 .f32 := m ((c : Thread nD τ).loc main_arg1)
/-- Argument `arg2`'s array, the up projection. -/
abbrev a2 : Vec Ideal S2048x768 .f32 := m ((c : Thread nD τ).loc main_arg2)
/-- Argument `arg3`'s array, the down projection. -/
abbrev a3 : Vec Ideal S768x2048 .f32 := m ((c : Thread nD τ).loc main_arg3)
/-- Argument `arg4`'s array, the expert gate. -/
abbrev a4 : Vec Ideal S8x768 .f32 := m ((c : Thread nD τ).loc main_arg4)
/-- Argument `arg5`'s array, the first low-rank input factor. -/
abbrev a5 : Vec Ideal S8x8x768 .f32 := m ((c : Thread nD τ).loc main_arg5)
/-- Argument `arg6`'s array, the first low-rank output factor. -/
abbrev a6 : Vec Ideal S8x2048x8 .f32 := m ((c : Thread nD τ).loc main_arg6)
/-- Argument `arg7`'s array, the second low-rank input factor. -/
abbrev a7 : Vec Ideal S8x8x768 .f32 := m ((c : Thread nD τ).loc main_arg7)
/-- Argument `arg8`'s array, the second low-rank output factor. -/
abbrev a8 : Vec Ideal S8x2048x8 .f32 := m ((c : Thread nD τ).loc main_arg8)
/-- Argument `arg9`'s array, the third low-rank input factor. -/
abbrev a9 : Vec Ideal S8x8x2048 .f32 := m ((c : Thread nD τ).loc main_arg9)
/-- Argument `arg10`'s array, the third low-rank output factor. -/
abbrev a10 : Vec Ideal S8x768x8 .f32 := m ((c : Thread nD τ).loc main_arg10)

/-- The host's flattening of the first low-rank input factor. -/
theorem V_v10 : (V m c main_v10 : Vec Ideal S64x768 .f32) = shapeCast S64x768 (a5 m c) shapeCasts_S8x8x768_S64x768 := by
  show StableHlo.after hostOps0 _ (Proc.devRef .tc main_v10) = _
  after_reads_simp
  rfl

/-- The host's flattening of the second low-rank input factor. -/
theorem V_v11 : (V m c main_v11 : Vec Ideal S64x768 .f32) = shapeCast S64x768 (a7 m c) shapeCasts_S8x8x768_S64x768 := by
  show StableHlo.after hostOps0 _ (Proc.devRef .tc main_v11) = _
  after_reads_simp
  rfl

/-- The host's transposed and flattened third low-rank output factor. -/
theorem V_v9 : (V m c main_v9 : Vec Ideal S64x768 .bf16)
    = truncf (F := Ideal) (φ := .f32) .bf16 (shapeCast S64x768 (transpose S8x8x768 [0, 2, 1] (a10 m c) transposes_S8x768x8_S8x8x768_0_2_1)
        shapeCasts_S8x8x768_S64x768) bitsLt_bf16_f32 := by
  show StableHlo.after hostOps0 _ (Proc.devRef .tc main_v9) = _
  after_reads_simp
  rfl

/-- The host's stack of the three hidden-width low-rank factors. -/
theorem V_v6 : (V m c main_v6 : Vec Ideal S192x2048 .bf16)
    = truncf (F := Ideal) (φ := .f32) .bf16 (concatenate S192x2048 0
        [⟨S64x2048, shapeCast S64x2048 (transpose S8x8x2048 [0, 2, 1] (a6 m c) transposes_S8x2048x8_S8x8x2048_0_2_1) shapeCasts_S8x8x2048_S64x2048⟩,
         ⟨S64x2048, shapeCast S64x2048 (transpose S8x8x2048 [0, 2, 1] (a8 m c) transposes_S8x2048x8_S8x8x2048_0_2_1) shapeCasts_S8x8x2048_S64x2048⟩,
         ⟨S64x2048, shapeCast S64x2048 (a9 m c) shapeCasts_S8x8x2048_S64x2048⟩] concatenates_S64x2048_S64x2048_S64x2048_S192x2048_d0) bitsLt_bf16_f32 := by
  show StableHlo.after hostOps0 _ (Proc.devRef .tc main_v6) = _
  after_reads_simp
  rfl

/-- A coordinate given by its value. -/
theorem fin_of {n : ℕ} (e : Fin n) (v : ℕ) (h : v < n) (hv : v = e.val) : (⟨v, h⟩ : Fin n) = e := Fin.ext hv

/-- The flattened first low-rank input factor, entry by entry. -/
theorem v10_apply (e r : Fin 8) (d : Fin 768) : (V m c main_v10 : Vec Ideal S64x768 .f32) (ix2 (lane e r) d) = a5 m c (ix3 e r d) := by
  rw [V_v10]
  pointwise
  rw [fin_of e _ _ (by omega), fin_of r _ _ (by omega)]

/-- The flattened second low-rank input factor, entry by entry. -/
theorem v11_apply (e r : Fin 8) (d : Fin 768) : (V m c main_v11 : Vec Ideal S64x768 .f32) (ix2 (lane e r) d) = a7 m c (ix3 e r d) := by
  rw [V_v11]
  pointwise
  rw [fin_of e _ _ (by omega), fin_of r _ _ (by omega)]

/-- The transposed and flattened third low-rank output factor, entry by entry. -/
theorem v9_apply (e r : Fin 8) (d : Fin 768) : (V m c main_v9 : Vec Ideal S64x768 .bf16) (ix2 (lane e r) d) = a10 m c (ix3 e d r) := by
  rw [V_v9]
  pointwise
  rw [fin_of e _ _ (by omega), fin_of r _ _ (by omega)]

/-- The stack's first part, entry by entry. -/
theorem v6_apply0 (e r : Fin 8) (f : Fin 2048) :
    (V m c main_v6 : Vec Ideal S192x2048 .bf16) (ix2 ⟨8 * e.val + r.val, by omega⟩ f) = a6 m c (ix3 e f r) := by
  rw [V_v6]
  pointwise
  rw [dif_pos (by omega)]

/-- The stack's second part, entry by entry. -/
theorem v6_apply1 (e r : Fin 8) (f : Fin 2048) :
    (V m c main_v6 : Vec Ideal S192x2048 .bf16) (ix2 ⟨64 + (8 * e.val + r.val), by omega⟩ f) = a8 m c (ix3 e f r) := by
  rw [V_v6]
  pointwise
  rw [dif_pos (by omega)]

/-- The stack's third part, entry by entry. -/
theorem v6_apply2 (e r : Fin 8) (f : Fin 2048) :
    (V m c main_v6 : Vec Ideal S192x2048 .bf16) (ix2 ⟨128 + (8 * e.val + r.val), by omega⟩ f) = a9 m c (ix3 e r f) := by
  rw [V_v6]
  pointwise
  rw [dif_neg (by omega), dif_neg (by omega), fin_of e _ _ (by omega), fin_of r _ _ (by omega)]

variable (t : Fin cfg0.N)

/-- The input window's block is the whole input. -/
theorem blk0 (r : Fin 2048) (d : Fin 768) : (iblk m c 0 t : Vec Ideal S2048x768 .f32) (ix2 r d) = a0 m c (ix2 r d) := by
  have hi : win0_0.index t 0 = 0 ∧ win0_0.index t 1 = 0 := ⟨rfl, rfl⟩
  unfold iblk
  rw [View.read_apply]
  show V m c main_arg0 _ = _
  rw [V_main_arg0]
  congr 1
  funext a
  apply Fin.ext
  match a with
  | ⟨0, _⟩ => show win0_0.index t 0 * 2048 + 1 * r.val = r.val; rw [hi.1]; omega
  | ⟨1, _⟩ => show win0_0.index t 1 * 768 + 1 * d.val = d.val; rw [hi.2]; omega

/-- A gate projection tile's entry. -/
theorem blk1 (k : Fin 256) (d : Fin 768) (h : t.val < 8) :
    (iblk m c 1 t : Vec Ideal S256x768 .f32) (ix2 k d) = a1 m c (ix2 (col ⟨t.val, h⟩ k) d) := by
  have hi : ∀ t : Fin cfg0.N, win0_1.index t 0 = t.val ∧ win0_1.index t 1 = 0 := by decide
  unfold iblk
  rw [View.read_apply]
  show V m c main_arg1 _ = _
  rw [V_main_arg1]
  congr 1
  funext a
  apply Fin.ext
  match a with
  | ⟨0, _⟩ => show win0_1.index t 0 * 256 + 1 * k.val = 256 * t.val + k.val; rw [(hi t).1]; omega
  | ⟨1, _⟩ => show win0_1.index t 1 * 768 + 1 * d.val = d.val; rw [(hi t).2]; omega

/-- An up projection tile's entry. -/
theorem blk2 (k : Fin 256) (d : Fin 768) (h : t.val < 8) :
    (iblk m c 2 t : Vec Ideal S256x768 .f32) (ix2 k d) = a2 m c (ix2 (col ⟨t.val, h⟩ k) d) := by
  have hi : ∀ t : Fin cfg0.N, win0_2.index t 0 = t.val ∧ win0_2.index t 1 = 0 := by decide
  unfold iblk
  rw [View.read_apply]
  show (V m c main_arg2 : Vec Ideal S2048x768 .f32) _ = _
  rw [V_main_arg2]
  congr 1
  funext a
  apply Fin.ext
  match a with
  | ⟨0, _⟩ => show win0_2.index t 0 * 256 + 1 * k.val = 256 * t.val + k.val; rw [(hi t).1]; omega
  | ⟨1, _⟩ => show win0_2.index t 1 * 768 + 1 * d.val = d.val; rw [(hi t).2]; omega

/-- A down projection tile's entry. -/
theorem blk3 (d : Fin 768) (k : Fin 256) (h : t.val < 8) :
    (iblk m c 3 t : Vec Ideal S768x256 .f32) (ix2 d k) = a3 m c (ix2 d (col ⟨t.val, h⟩ k)) := by
  have hi : ∀ t : Fin cfg0.N, win0_3.index t 0 = 0 ∧ win0_3.index t 1 = t.val := by decide
  unfold iblk
  rw [View.read_apply]
  show (V m c main_arg3 : Vec Ideal S768x2048 .f32) _ = _
  rw [V_main_arg3]
  congr 1
  funext a
  apply Fin.ext
  match a with
  | ⟨0, _⟩ => show win0_3.index t 0 * 768 + 1 * d.val = d.val; rw [(hi t).1]; omega
  | ⟨1, _⟩ => show win0_3.index t 1 * 256 + 1 * k.val = 256 * t.val + k.val; rw [(hi t).2]; omega

/-- The expert gate's block is the whole gate. -/
theorem blk4 (e : Fin 8) (d : Fin 768) :
    (iblk m c 4 t : Vec Ideal S8x768 .f32) (ix2 e d) = a4 m c (ix2 e d) := by
  have hi : ∀ t : Fin cfg0.N, win0_4.index t 0 = 0 ∧ win0_4.index t 1 = 0 := by decide
  unfold iblk
  rw [View.read_apply]
  show (V m c main_arg4 : Vec Ideal S8x768 .f32) _ = _
  rw [V_main_arg4]
  congr 1
  funext a
  apply Fin.ext
  match a with
  | ⟨0, _⟩ => show win0_4.index t 0 * 8 + 1 * e.val = e.val; rw [(hi t).1]; omega
  | ⟨1, _⟩ => show win0_4.index t 1 * 768 + 1 * d.val = d.val; rw [(hi t).2]; omega

/-- The first low-rank input factor's block, at a lane. -/
theorem blk5 (e r : Fin 8) (d : Fin 768) :
    (iblk m c 5 t : Vec Ideal S64x768 .f32) (ix2 (lane e r) d) = a5 m c (ix3 e r d) := by
  have hi : ∀ t : Fin cfg0.N, win0_5.index t 0 = 0 ∧ win0_5.index t 1 = 0 := by decide
  unfold iblk
  rw [View.read_apply]
  show (V m c main_v10 : Vec Ideal S64x768 .f32) _ = _
  rw [← v10_apply]
  congr 1
  funext a
  apply Fin.ext
  match a with
  | ⟨0, _⟩ => show win0_5.index t 0 * 64 + 1 * (8 * e.val + r.val) = 8 * e.val + r.val; rw [(hi t).1]; omega
  | ⟨1, _⟩ => show win0_5.index t 1 * 768 + 1 * d.val = d.val; rw [(hi t).2]; omega

/-- The second low-rank input factor's block, at a lane. -/
theorem blk6 (e r : Fin 8) (d : Fin 768) :
    (iblk m c 6 t : Vec Ideal S64x768 .f32) (ix2 (lane e r) d) = a7 m c (ix3 e r d) := by
  have hi : ∀ t : Fin cfg0.N, win0_6.index t 0 = 0 ∧ win0_6.index t 1 = 0 := by decide
  unfold iblk
  rw [View.read_apply]
  show (V m c main_v11 : Vec Ideal S64x768 .f32) _ = _
  rw [← v11_apply]
  congr 1
  funext a
  apply Fin.ext
  match a with
  | ⟨0, _⟩ => show win0_6.index t 0 * 64 + 1 * (8 * e.val + r.val) = 8 * e.val + r.val; rw [(hi t).1]; omega
  | ⟨1, _⟩ => show win0_6.index t 1 * 768 + 1 * d.val = d.val; rw [(hi t).2]; omega

/-- Part 0 of a tile of the stacked factors, at a lane. -/
theorem blk7_0 (e r : Fin 8) (k : Fin 256) (h : t.val < 8) :
    (iblk m c 7 t : Vec Ideal S192x256 .bf16) (ix2 ⟨8 * e.val + r.val, by omega⟩ k) = a6 m c (ix3 e (col ⟨t.val, h⟩ k) r) := by
  have hi : ∀ t : Fin cfg0.N, win0_7.index t 0 = 0 ∧ win0_7.index t 1 = t.val := by decide
  unfold iblk
  rw [View.read_apply]
  show (V m c main_v6 : Vec Ideal S192x2048 .bf16) _ = _
  rw [← v6_apply0]
  congr 1
  funext a
  apply Fin.ext
  match a with
  | ⟨0, _⟩ => show win0_7.index t 0 * 192 + 1 * (8 * e.val + r.val) = 8 * e.val + r.val; rw [(hi t).1]; omega
  | ⟨1, _⟩ => show win0_7.index t 1 * 256 + 1 * k.val = 256 * t.val + k.val; rw [(hi t).2]; omega

/-- Part 1 of a tile of the stacked factors, at a lane. -/
theorem blk7_1 (e r : Fin 8) (k : Fin 256) (h : t.val < 8) :
    (iblk m c 7 t : Vec Ideal S192x256 .bf16) (ix2 ⟨64 + (8 * e.val + r.val), by omega⟩ k) = a8 m c (ix3 e (col ⟨t.val, h⟩ k) r) := by
  have hi : ∀ t : Fin cfg0.N, win0_7.index t 0 = 0 ∧ win0_7.index t 1 = t.val := by decide
  unfold iblk
  rw [View.read_apply]
  show (V m c main_v6 : Vec Ideal S192x2048 .bf16) _ = _
  rw [← v6_apply1]
  congr 1
  funext a
  apply Fin.ext
  match a with
  | ⟨0, _⟩ => show win0_7.index t 0 * 192 + 1 * (64 + (8 * e.val + r.val)) = 64 + (8 * e.val + r.val); rw [(hi t).1]; omega
  | ⟨1, _⟩ => show win0_7.index t 1 * 256 + 1 * k.val = 256 * t.val + k.val; rw [(hi t).2]; omega

/-- Part 2 of a tile of the stacked factors, at a lane. -/
theorem blk7_2 (e r : Fin 8) (k : Fin 256) (h : t.val < 8) :
    (iblk m c 7 t : Vec Ideal S192x256 .bf16) (ix2 ⟨128 + (8 * e.val + r.val), by omega⟩ k) = a9 m c (ix3 e r (col ⟨t.val, h⟩ k)) := by
  have hi : ∀ t : Fin cfg0.N, win0_7.index t 0 = 0 ∧ win0_7.index t 1 = t.val := by decide
  unfold iblk
  rw [View.read_apply]
  show (V m c main_v6 : Vec Ideal S192x2048 .bf16) _ = _
  rw [← v6_apply2]
  congr 1
  funext a
  apply Fin.ext
  match a with
  | ⟨0, _⟩ => show win0_7.index t 0 * 192 + 1 * (128 + (8 * e.val + r.val)) = 128 + (8 * e.val + r.val); rw [(hi t).1]; omega
  | ⟨1, _⟩ => show win0_7.index t 1 * 256 + 1 * k.val = 256 * t.val + k.val; rw [(hi t).2]; omega

/-- The third low-rank output factor's block, at a lane. -/
theorem blk8 (e r : Fin 8) (d : Fin 768) :
    (iblk m c 8 t : Vec Ideal S64x768 .bf16) (ix2 (lane e r) d) = a10 m c (ix3 e d r) := by
  have hi : ∀ t : Fin cfg0.N, win0_8.index t 0 = 0 ∧ win0_8.index t 1 = 0 := by decide
  unfold iblk
  rw [View.read_apply]
  show (V m c main_v9 : Vec Ideal S64x768 .bf16) _ = _
  rw [← v9_apply]
  congr 1
  funext a
  apply Fin.ext
  match a with
  | ⟨0, _⟩ => show win0_8.index t 0 * 64 + 1 * (8 * e.val + r.val) = 8 * e.val + r.val; rw [(hi t).1]; omega
  | ⟨1, _⟩ => show win0_8.index t 1 * 768 + 1 * d.val = d.val; rw [(hi t).2]; omega

end Cert.KernelIdeal.BlockRead

end
-- ==== Proof.TileRead.lean ====
/-
  One tile of the fused kernel read entry by entry over the extended reals: every product is a finite sum, every change of
  float format is the identity.
-/
module

public import proofs.«01_k».proof.Proof.CaseValue
public import proofs.«01_k».proof.Proof.Spec
public import Idealize.ShloMosaic.Lib.Pointwise

@[expose] public section

noncomputable section

open Idealize.ShloMosaic Idealize.ShloMosaic.TcCoe Idealize.SL.Sem

namespace Cert.KernelIdeal.TileRead

open Cert.KernelIdeal Cert.KernelIdeal.Gen Cert.KernelIdeal.CaseValue Cert.Spec

section
variable (x1 x2 : Vec Ideal S256x768 .f32) (x3 : Vec Ideal S768x256 .f32) (x7 : Vec Ideal S192x256 .bf16)
  (xs0 : Vec Ideal S2048x768 .bf16) (xs1 : Vec Ideal S2048x256 .bf16) (xs2 : Vec Ideal S2048x128 .f32)

/-- The first chosen expert's weighted activation at an entry. -/
theorem s0_apply (t : Fin 2048) (k : Fin 256) :
    s0 x1 x2 x7 xs0 xs1 xs2 (ix2 t k)
      = glu ((∑ d : Fin 768, xs0 (ix2 t d) * x1 (ix2 k d)) + ∑ l : Fin 64, um0 xs1 (ix2 t l) * sm0 x7 (ix2 l k))
          ((∑ d : Fin 768, xs0 (ix2 t d) * x2 (ix2 k d)) + ∑ l : Fin 64, um1 xs1 (ix2 t l) * sm1 x7 (ix2 l k))
        * col0 xs2 (ix2 t 0) := by
  unfold s0 k0_pay40 k0_pay35 k0_pay36 k0_pay37 k0_pay38 glu
  generalize um0 xs1 = u0
  generalize um1 xs1 = u1
  generalize sm0 x7 = b0
  generalize sm1 x7 = b1
  generalize col0 xs2 = p
  pointwise

/-- The second chosen expert's weighted activation at an entry. -/
theorem s1_apply (t : Fin 2048) (k : Fin 256) :
    s1 x1 x2 x7 xs0 xs1 xs2 (ix2 t k)
      = glu ((∑ d : Fin 768, xs0 (ix2 t d) * x1 (ix2 k d)) + ∑ l : Fin 64, um2 xs1 (ix2 t l) * sm0 x7 (ix2 l k))
          ((∑ d : Fin 768, xs0 (ix2 t d) * x2 (ix2 k d)) + ∑ l : Fin 64, um3 xs1 (ix2 t l) * sm1 x7 (ix2 l k))
        * (1 - col0 xs2 (ix2 t 0)) := by
  unfold s1 k0_pay2 k0_pay35 k0_pay36 k0_pay37 k0_pay38 glu
  generalize um2 xs1 = u0
  generalize um3 xs1 = u1
  generalize sm0 x7 = b0
  generalize sm1 x7 = b1
  generalize col0 xs2 = p
  pointwise

/-- A tile's contribution to an output entry. -/
theorem con_apply (t : Fin 2048) (d : Fin 768) :
    con x1 x2 x3 x7 xs0 xs1 xs2 (ix2 t d)
      = ∑ k : Fin 256, (s0 x1 x2 x7 xs0 xs1 xs2 (ix2 t k) + s1 x1 x2 x7 xs0 xs1 xs2 (ix2 t k)) * x3 (ix2 d k) := by
  unfold con
  rw [show s1 x1 x2 x7 xs0 xs1 xs2 = k0_pay2 (k0_pay35 xs0 x1) (k0_pay36 xs0 x2) (k0_pay37 (sm0 x7)) (k0_pay38 (sm1 x7)) (col0 xs2) (um2 xs1) (um3 xs1) from rfl]
  unfold k0_pay4 k0_pay34
  generalize k0_pay2 (k0_pay35 xs0 x1) (k0_pay36 xs0 x2) (k0_pay37 (sm0 x7)) (k0_pay38 (sm1 x7)) (col0 xs2) (um2 xs1) (um3 xs1) = q
  generalize s0 x1 x2 x7 xs0 xs1 xs2 = p
  pointwise

/-- A tile's contribution to the first accumulator's entry. -/
theorem y0_apply (t : Fin 2048) (l : Fin 64) :
    y0 x1 x2 x7 xs0 xs1 xs2 (ix2 t l) = ∑ k : Fin 256, s0 x1 x2 x7 xs0 xs1 xs2 (ix2 t k) * sm2 x7 (ix2 l k) := by
  rw [show s0 x1 x2 x7 xs0 xs1 xs2 = k0_pay40 xs0 x1 x2 (sm0 x7) (sm1 x7) (col0 xs2) (um0 xs1) (um1 xs1) from rfl]
  unfold y0 k0_pay1 k0_pay41 k0_pay39
  generalize k0_pay40 xs0 x1 x2 (sm0 x7) (sm1 x7) (col0 xs2) (um0 xs1) (um1 xs1) = q
  generalize sm2 x7 = p
  pointwise

/-- A tile's contribution to the second accumulator's entry. -/
theorem y1_apply (t : Fin 2048) (l : Fin 64) :
    y1 x1 x2 x7 xs0 xs1 xs2 (ix2 t l) = ∑ k : Fin 256, s1 x1 x2 x7 xs0 xs1 xs2 (ix2 t k) * sm2 x7 (ix2 l k) := by
  rw [show s1 x1 x2 x7 xs0 xs1 xs2 = k0_pay2 (k0_pay35 xs0 x1) (k0_pay36 xs0 x2) (k0_pay37 (sm0 x7)) (k0_pay38 (sm1 x7)) (col0 xs2) (um2 xs1) (um3 xs1) from rfl]
  unfold y1 k0_pay3 k0_pay39
  generalize k0_pay2 (k0_pay35 xs0 x1) (k0_pay36 xs0 x2) (k0_pay37 (sm0 x7)) (k0_pay38 (sm1 x7)) (col0 xs2) (um2 xs1) (um3 xs1) = q
  generalize sm2 x7 = p
  pointwise

end

/-- The result at an entry: the summed tiles plus the masked accumulators times the expansion. -/
theorem pay10_apply (a b a' b' : Vec Ideal S2048x64 .f32) (o : Vec Ideal S2048x768 .f32) (w : Vec Ideal S64x768 .bf16)
    (t : Fin 2048) (d : Fin 768) :
    k0_pay10 a b a' b' o w (ix2 t d)
      = o (ix2 t d) + ∑ l : Fin 64, (a (ix2 t l) * b (ix2 t l) + a' (ix2 t l) * b' (ix2 t l)) * w (ix2 l d) := by
  unfold k0_pay10
  pointwise

/-- A low-rank projection at an entry. -/
theorem pay23_apply (x : Vec Ideal S2048x768 .f32) (a : Vec Ideal S64x768 .f32) (t : Fin 2048) (l : Fin 64) :
    k0_pay23 x a (ix2 t l) = ∑ d : Fin 768, x (ix2 t d) * a (ix2 l d) := by
  unfold k0_pay23
  pointwise

/-- The other low-rank projection at an entry. -/
theorem pay24_apply (x : Vec Ideal S2048x768 .f32) (a : Vec Ideal S64x768 .f32) (t : Fin 2048) (l : Fin 64) :
    k0_pay24 x a (ix2 t l) = ∑ d : Fin 768, x (ix2 t d) * a (ix2 l d) := by
  unfold k0_pay24
  pointwise

/-- A gate logit at an entry. -/
theorem pay11_apply (x : Vec Ideal S2048x768 .f32) (g : Vec Ideal S8x768 .f32) (t : Fin 2048) (e : Fin 8) :
    k0_pay11 x g (ix2 t e) = ∑ d : Fin 768, x (ix2 t d) * g (ix2 e d) := by
  unfold k0_pay11
  pointwise

/-- The first column of the broadcast weight is the weight. -/
theorem col0_pay31 (p : Vec Ideal S2048x1 .f32) (t : Fin 2048) : col0 (k0_pay31 p) (ix2 t 0) = p (ix2 t 0) := by
  unfold k0_pay31
  pointwise

end Cert.KernelIdeal.TileRead

end
-- ==== Proof.Top.lean ====
/-
  The two largest of eight extended reals, ties going to the lower place: what characterises the two places, and that the
  places so characterised are unique.
-/
module

public import Idealize.ShloMosaic.PureOps.Ideal
public import Idealize.ShloMosaic.Lib.Pointwise

@[expose] public section

noncomputable section

open Idealize.ShloMosaic

namespace Cert.Top

/-- Place `i` holds the largest entry, and is the first that does; `j` is the same among the other places. -/
structure Top2 (l : Fin 8 → EReal) (i j : Fin 8) : Prop where
  /-- The two places differ. -/
  ne : j ≠ i
  /-- No entry is above the first. -/
  le : ∀ e, l e ≤ l i
  /-- Entries before the first place are below it. -/
  lt : ∀ e, e < i → l e < l i
  /-- No other entry is above the second. -/
  le' : ∀ e, e ≠ i → l e ≤ l j
  /-- Other entries before the second place are below it. -/
  lt' : ∀ e, e ≠ i → e < j → l e < l j

/-- The two places are unique. -/
theorem Top2.unique {l : Fin 8 → EReal} {i j i' j' : Fin 8} (h : Top2 l i j) (h' : Top2 l i' j') : i = i' ∧ j = j' := by
  have e1 : i = i' := by
    rcases lt_trichotomy i i' with q | q | q
    · exact absurd (h'.lt i q) (not_lt.mpr (h.le i'))
    · exact q
    · exact absurd (h.lt i' q) (not_lt.mpr (h'.le i))
  subst e1
  refine ⟨rfl, ?_⟩
  rcases lt_trichotomy j j' with q | q | q
  · exact absurd (h'.lt' j h.ne q) (not_lt.mpr (h.le' j' h'.ne))
  · exact q
  · exact absurd (h.lt' j' h'.ne q) (not_lt.mpr (h'.le' j h.ne))

/-- A strictly increasing change of the entries keeps the two places. -/
theorem Top2.map {l w : Fin 8 → EReal} {i j : Fin 8} (h : Top2 l i j) (hw : ∀ a b, w a < w b ↔ l a < l b) : Top2 w i j where
  ne := h.ne
  le e := not_lt.mp fun q => absurd ((hw _ _).mp q) (not_lt.mpr (h.le e))
  lt e q := (hw _ _).mpr (h.lt e q)
  le' e q := not_lt.mp fun q' => absurd ((hw _ _).mp q') (not_lt.mpr (h.le' e q))
  lt' e q q' := (hw _ _).mpr (h.lt' e q q')

/-- The first marked place of eight, or the last place where none is marked. -/
def first (b : Fin 8 → Bool) : Fin 8 :=
  if b 0 then 0 else if b 1 then 1 else if b 2 then 2 else if b 3 then 3 else if b 4 then 4 else if b 5 then 5
  else if b 6 then 6 else 7

/-- The smallest of the marked places' words, unmarked places counting as eight, is the first marked place's word. -/
theorem fold_minsi (b : Fin 8 → Bool) (h : ∃ e, b e = true) :
    Finset.fold IntOp.minsi (2147483647#32) (fun e : Fin 8 => if b e = true then BitVec.ofNat 32 e.val else 8#32) Finset.univ
      = BitVec.ofNat 32 (first b).val := by
  revert b
  decide

/-- The first marked place is marked. -/
theorem first_spec (b : Fin 8 → Bool) (h : ∃ e, b e = true) : b (first b) = true := by
  revert b
  decide

/-- No place before the first marked one is marked. -/
theorem first_min (b : Fin 8 → Bool) (e : Fin 8) (he : e < first b) : b e = false := by
  revert b e
  decide

/-- The largest of the entries, from the bottom of the order. -/
def mx (l : Fin 8 → EReal) : EReal := Finset.fold max ⊥ l Finset.univ

/-- Every entry is at most the largest. -/
theorem le_mx (l : Fin 8 → EReal) (e : Fin 8) : l e ≤ mx l := (Finset.fold_max_le (c := mx l)).mp le_rfl |>.2 e (Finset.mem_univ e)

/-- The largest is one of the entries. -/
theorem mx_mem (l : Fin 8 → EReal) : ∃ e, l e = mx l := by
  obtain ⟨e, -, he⟩ := Finset.exists_max_image (Finset.univ : Finset (Fin 8)) l ⟨0, Finset.mem_univ 0⟩
  exact ⟨e, le_antisymm (le_mx l e) (Finset.fold_max_le _ |>.mpr ⟨bot_le, he⟩)⟩

/-- The first place that holds the largest entry. -/
def i1 (l : Fin 8 → EReal) : Fin 8 := first fun e => decide (l e = mx l)

/-- The entries with one place taken out. -/
def drop (l : Fin 8 → EReal) (i : Fin 8) (e : Fin 8) : EReal := if e = i then ⊥ else l e

/-- The first place that holds the largest of the others. -/
def i2 (l : Fin 8 → EReal) : Fin 8 := i1 (drop l (i1 l))

/-- The first largest place holds the largest. -/
theorem l_i1 (l : Fin 8 → EReal) : l (i1 l) = mx l :=
  of_decide_eq_true (first_spec (fun e => decide (l e = mx l)) ((mx_mem l).imp fun _ h => decide_eq_true h))

/-- Entries before the first largest place are below it. -/
theorem lt_i1 (l : Fin 8 → EReal) (e : Fin 8) (h : e < i1 l) : l e < mx l :=
  lt_of_le_of_ne (le_mx l e) (of_decide_eq_false (first_min (fun e => decide (l e = mx l)) e h))

/-- The word of the first largest place, as a running minimum over the places that hold the largest. -/
theorem word_i1 (l : Fin 8 → EReal) :
    Finset.fold IntOp.minsi (2147483647#32) (fun e : Fin 8 => if l e = mx l then BitVec.ofNat 32 e.val else 8#32) Finset.univ
      = BitVec.ofNat 32 (i1 l).val := by
  have := fold_minsi (fun e => decide (l e = mx l)) ((mx_mem l).imp fun _ h => decide_eq_true h)
  refine Eq.trans (congrArg (fun f => Finset.fold IntOp.minsi (2147483647#32) f Finset.univ) (funext fun e => ?_)) this
  by_cases h : l e = mx l
  · rw [if_pos h, if_pos (decide_eq_true h)]
  · rw [if_neg h, if_neg (by rw [decide_eq_false h]; exact Bool.false_ne_true)]

/-- Where no entry is the bottom of the order, the two places found are the top two. -/
theorem top2 (l : Fin 8 → EReal) (hl : ∀ e, l e ≠ ⊥) : Top2 l (i1 l) (i2 l) := by
  have hd : ∀ e, e ≠ i1 l → drop l (i1 l) e = l e := fun e h => if_neg h
  have hne : i2 l ≠ i1 l := fun h => by
    obtain ⟨e, he⟩ : ∃ e : Fin 8, e ≠ i1 l := exists_ne _
    have h1 := l_i1 (drop l (i1 l))
    change drop l (i1 l) (i2 l) = _ at h1
    rw [h, drop, if_pos rfl] at h1
    have h2 := le_mx (drop l (i1 l)) e
    rw [← h1, hd e he] at h2
    exact hl e (le_bot_iff.mp h2)
  have h2 : l (i2 l) = mx (drop l (i1 l)) := (hd _ hne).symm.trans (l_i1 (drop l (i1 l)))
  refine ⟨hne, fun e => ?_, fun e h => ?_, fun e h => ?_, fun e h h' => ?_⟩
  · rw [l_i1 l]; exact le_mx l e
  · rw [l_i1 l]; exact lt_i1 l e h
  · rw [h2, ← hd e h]; exact le_mx _ e
  · rw [h2, ← hd e h]; exact lt_i1 _ e h'

/-- The largest of the others is the second place's entry. -/
theorem mx_drop (l : Fin 8 → EReal) (hl : ∀ e, l e ≠ ⊥) : mx (drop l (i1 l)) = l (i2 l) := by
  have h1 := l_i1 (drop l (i1 l))
  change drop l (i1 l) (i2 l) = _ at h1
  rw [← h1, drop, if_neg (top2 l hl).ne]

end Cert.Top

end
-- ==== Proof.Gate.lean ====
/-
  The kernel's routing read entry by entry: the two chosen experts are the places of the two largest logits, the masks mark
  their lanes, and the first weight is the logistic of the two logits' difference.
-/
module

public import proofs.«01_k».proof.Proof.TileRead
public import proofs.«01_k».proof.Proof.Top

@[expose] public section

noncomputable section

open Idealize.ShloMosaic Idealize.ShloMosaic.TcCoe Idealize.SL.Sem

namespace Cert.KernelIdeal.Gate

open Cert.KernelIdeal Cert.KernelIdeal.Gen Cert.KernelIdeal.CaseValue Cert.Top

/-- The word of minus infinity. -/
theorem neg_inf : Ideal.ofBits .f32 0xFF800000#32 = ⊥ := by
  simp [Ideal.ofBits, Ideal.ieee]

variable (x : Vec Ideal S2048x768 .f32) (g : Vec Ideal S8x768 .f32) (t : Fin 2048)

/-- A row's eight logits. -/
def lg (e : Fin 8) : EReal := ∑ d : Fin 768, x (ix2 t d) * g (ix2 e d)

/-- The largest logit. -/
theorem pay12_apply : k0_pay12 x g (ix2 t 0) = mx (lg x g t) := by
  have h : ∀ e, k0_pay11 x g (ix2 t e) = lg x g t e := fun e => TileRead.pay11_apply x g t e
  unfold k0_pay12
  generalize k0_pay11 x g = L at h
  pointwise
  rw [neg_inf]
  simp only [h]
  rfl

/-- The first chosen expert's word. -/
theorem pay13_apply : k0_pay13 x g (ix2 t 0) = BitVec.ofNat 32 (i1 (lg x g t)).val := by
  have h : ∀ e, k0_pay11 x g (ix2 t e) = lg x g t e := fun e => TileRead.pay11_apply x g t e
  have h' := pay12_apply x g t
  unfold k0_pay13
  generalize k0_pay11 x g = L at h
  generalize k0_pay12 x g = M at h'
  pointwise
  rw [← word_i1]
  simp only [h, h']

/-- The logits with the first chosen expert's taken out. -/
theorem pay14_apply (e : Fin 8) : k0_pay14 x g (ix2 t e) = drop (lg x g t) (i1 (lg x g t)) e := by
  have h : ∀ e, k0_pay11 x g (ix2 t e) = lg x g t e := fun e => TileRead.pay11_apply x g t e
  have h' := pay13_apply x g t
  unfold k0_pay14
  generalize k0_pay11 x g = L at h
  generalize k0_pay13 x g = M at h'
  pointwise
  rw [neg_inf, h, h', drop]
  generalize i1 (lg x g t) = i
  by_cases hi : e = i
  · subst hi
    rw [if_pos rfl]
    simp [Scalar.select, IntOp.cmpi]
  · have : BitVec.ofNat 32 e.val ≠ BitVec.ofNat 32 i.val := by
      revert e i; decide
    rw [if_neg hi]
    have hb : (BitVec.ofNat 32 e.val == BitVec.ofNat 32 i.val) = false := beq_eq_false_iff_ne.mpr this
    simp only [Scalar.select, IntOp.cmpi, hb]
    rfl

/-- The largest of the other logits. -/
theorem pay15_apply : k0_pay15 x g (ix2 t 0) = mx (drop (lg x g t) (i1 (lg x g t))) := by
  have h := pay14_apply x g t
  unfold k0_pay15
  generalize k0_pay14 x g = L at h
  pointwise
  rw [neg_inf]
  simp only [h]
  rfl

/-- The second chosen expert's word. -/
theorem pay16_apply : k0_pay16 x g (ix2 t 0) = BitVec.ofNat 32 (i2 (lg x g t)).val := by
  have h := pay14_apply x g t
  have h' := pay15_apply x g t
  unfold k0_pay16
  generalize k0_pay14 x g = L at h
  generalize k0_pay15 x g = M at h'
  pointwise
  rw [i2, ← word_i1]
  simp only [h, h']

/-- The first chosen expert's weight. -/
theorem pay17_apply : k0_pay17 x g (ix2 t 0)
    = Ideal.div 1 (1 + Ideal.exp (mx (drop (lg x g t) (i1 (lg x g t))) - mx (lg x g t))) := by
  rw [← pay12_apply, ← pay15_apply]
  unfold k0_pay17
  generalize k0_pay12 x g = L
  generalize k0_pay15 x g = M
  pointwise

/-- A lane's expert, as the kernel computes it. -/
def laneWord (l : Fin 64) : BitVec 32 :=
  Scalar.select
    (IntOp.andi
      (IntOp.cmpi CmpIPredicate.ne
        (IntOp.subi (BitVec.setWidth 32 (IntOp.cmpi CmpIPredicate.sgt (BitVec.ofNat 32 l.val) 0#32))
          (BitVec.setWidth 32 (IntOp.cmpi CmpIPredicate.slt (BitVec.ofNat 32 l.val) 0#32)))
        (Scalar.subi (Scalar.extui (Scalar.cmpi CmpIPredicate.sgt 8#32 0#32))
          (Scalar.extui (Scalar.cmpi CmpIPredicate.slt 8#32 0#32))))
      (IntOp.cmpi CmpIPredicate.ne (IntOp.remsi ArithUnit.vector (BitVec.ofNat 32 l.val) 8#32) 0#32))
    (IntOp.subi (IntOp.divsi ArithUnit.vector (BitVec.ofNat 32 l.val) 8#32) 1#32)
    (IntOp.divsi ArithUnit.vector (BitVec.ofNat 32 l.val) 8#32)

/-- A lane's expert is the lane divided by eight. -/
theorem laneWord_eq (l : Fin 64) : laneWord l = BitVec.ofNat 32 (l.val / 8) := by
  revert l
  decide

/-- A membership mask's entry: one at the lanes of the chosen expert. -/
theorem ind_eq (l : Fin 64) (i : Fin 8) :
    (FloatOps.sitofp FTy.f32 (BitVec.setWidth 32 (IntOp.cmpi CmpIPredicate.eq (BitVec.ofNat 32 (l.val / 8)) (BitVec.ofNat 32 i.val))) : Ideal .f32)
      = if l.val / 8 = i.val then (1 : EReal) else 0 := by
  have h : ∀ (l : Fin 64) (i : Fin 8), (BitVec.setWidth 32 (IntOp.cmpi CmpIPredicate.eq (BitVec.ofNat 32 (l.val / 8)) (BitVec.ofNat 32 i.val))).toInt
      = if l.val / 8 = i.val then 1 else 0 := by decide
  show (((BitVec.setWidth 32 (IntOp.cmpi CmpIPredicate.eq (BitVec.ofNat 32 (l.val / 8)) (BitVec.ofNat 32 i.val))).toInt : ℝ) : EReal) = _
  rw [h l i]
  split_ifs <;> simp

/-- The first mask marks the first chosen expert's lanes. -/
theorem mask1_apply (l : Fin 64) : mask1 x g (ix2 t l) = if l.val / 8 = (i1 (lg x g t)).val then 1 else 0 := by
  have h := pay13_apply x g t
  unfold mask1 k0_pay21 k0_pay20 k0_pay18 k0_pay19
  generalize k0_pay13 x g = M at h
  pointwise
  rw [h, ← ind_eq, ← laneWord_eq]
  rfl

/-- The second mask marks the second chosen expert's lanes. -/
theorem mask2_apply (l : Fin 64) : mask2 x g (ix2 t l) = if l.val / 8 = (i2 (lg x g t)).val then 1 else 0 := by
  have h := pay16_apply x g t
  unfold mask2 k0_pay22 k0_pay20 k0_pay18 k0_pay19
  generalize k0_pay16 x g = M at h
  pointwise
  rw [h, ← ind_eq, ← laneWord_eq]
  rfl

end Cert.KernelIdeal.Gate

end
-- ==== Proof.KernelRead.lean ====
/-
  The fused kernel's result read entry by entry: the value `Spec.kernelValue` at the two largest logits' experts.
-/
module

public import proofs.«01_k».proof.Proof.Fold
public import proofs.«01_k».proof.Proof.BlockRead
public import proofs.«01_k».proof.Proof.Gate

@[expose] public section

noncomputable section

open Idealize.ShloMosaic Idealize.ShloMosaic.TcCoe Idealize.SL.Sem

namespace Cert.KernelIdeal.KernelRead

open Cert.KernelIdeal Cert.KernelIdeal.Gen Cert.KernelIdeal.CaseValue Cert.KernelIdeal.Fold Cert.KernelIdeal.BlockRead Cert.Spec

variable (m : (ℓ : Loc nD τ sig) → Buf (Elt Ideal) ℓ) (c : Dev nD)

/-! ## What the first point leaves in scratch -/

section Scratch

/-- The first point's case conditions. -/
theorem c0 : (t0).val % 8 = 0 := rfl
/-- The first point is not a later one. -/
theorem c2 : ¬1 ≤ (t0).val := by decide
/-- The first point is not the last. -/
theorem c3 : ¬(t0).val % 8 = 7 := by decide

/-- The rounded rows are the input rows. -/
theorem XB_eq : XB m c = truncf (F := Ideal) (φ := .f32) .bf16 (iblk m c 0 t0 : Vec Ideal S2048x768 .f32) bitsLt_bf16_f32 := by
  have e := congrArg (fun z => z.2.1) (outsAt0_A m c t0 c0 c0 c2 c3)
  dsimp only at e
  exact e.trans (xbs_A (F := Ideal) ..)

/-- The first part of the masked projections. -/
theorem UM0_eq : um0 (UM m c) = truncf (F := Ideal) (φ := .f32) .bf16 (mulf (k0_pay23 (iblk m c 0 t0 : Vec Ideal S2048x768 .f32) (iblk m c 5 t0)) (mask1 (iblk m c 0 t0) (iblk m c 4 t0))) bitsLt_bf16_f32 := by
  have e := congrArg (fun z => z.2.2.1) (outsAt0_A m c t0 c0 c0 c2 c3)
  dsimp only at e
  unfold UM
  rw [e]
  exact um0_A (F := Ideal) ..

/-- The second part of the masked projections. -/
theorem UM1_eq : um1 (UM m c) = truncf (F := Ideal) (φ := .f32) .bf16 (mulf (k0_pay24 (iblk m c 0 t0 : Vec Ideal S2048x768 .f32) (iblk m c 6 t0)) (mask1 (iblk m c 0 t0) (iblk m c 4 t0))) bitsLt_bf16_f32 := by
  have e := congrArg (fun z => z.2.2.1) (outsAt0_A m c t0 c0 c0 c2 c3)
  dsimp only at e
  unfold UM
  rw [e]
  exact um1_A (F := Ideal) ..

/-- The third part of the masked projections. -/
theorem UM2_eq : um2 (UM m c) = truncf (F := Ideal) (φ := .f32) .bf16 (mulf (k0_pay23 (iblk m c 0 t0 : Vec Ideal S2048x768 .f32) (iblk m c 5 t0)) (mask2 (iblk m c 0 t0) (iblk m c 4 t0))) bitsLt_bf16_f32 := by
  have e := congrArg (fun z => z.2.2.1) (outsAt0_A m c t0 c0 c0 c2 c3)
  dsimp only at e
  unfold UM
  rw [e]
  exact um2_A (F := Ideal) ..

/-- The fourth part of the masked projections. -/
theorem UM3_eq : um3 (UM m c) = truncf (F := Ideal) (φ := .f32) .bf16 (mulf (k0_pay24 (iblk m c 0 t0 : Vec Ideal S2048x768 .f32) (iblk m c 6 t0)) (mask2 (iblk m c 0 t0) (iblk m c 4 t0))) bitsLt_bf16_f32 := by
  have e := congrArg (fun z => z.2.2.1) (outsAt0_A m c t0 c0 c0 c2 c3)
  dsimp only at e
  unfold UM
  rw [e]
  exact um3_A (F := Ideal) ..

/-- The weight, broadcast. -/
theorem PP_eq : PP m c = k0_pay31 (k0_pay17 (iblk m c 0 t0 : Vec Ideal S2048x768 .f32) (iblk m c 4 t0)) := by
  have e := congrArg (fun z => z.2.2.2.1) (outsAt0_A m c t0 c0 c0 c2 c3)
  dsimp only at e
  exact e.trans (pp_A (F := Ideal) ..)

/-- The first mask. -/
theorem MK_lo_eq : lo (MK m c) = mask1 (iblk m c 0 t0 : Vec Ideal S2048x768 .f32) (iblk m c 4 t0) := by
  have e := congrArg (fun z => z.2.2.2.2.1) (outsAt0_A m c t0 c0 c0 c2 c3)
  dsimp only at e
  unfold MK
  rw [e]
  exact msk_lo_A (F := Ideal) ..

/-- The second mask. -/
theorem MK_hi_eq : hi (MK m c) = mask2 (iblk m c 0 t0 : Vec Ideal S2048x768 .f32) (iblk m c 4 t0) := by
  have e := congrArg (fun z => z.2.2.2.2.1) (outsAt0_A m c t0 c0 c0 c2 c3)
  dsimp only at e
  unfold MK
  rw [e]
  exact msk_hi_A (F := Ideal) ..

end Scratch

/-! ## The scratch, entry by entry -/

/-- The token's row of the input. -/
abbrev row (t : Fin 2048) : Fin 768 → EReal := fun d => a0 m c (ix2 t d)
/-- The token's gate logits. -/
abbrev logits (t : Fin 2048) : Fin 8 → EReal := fun e => ∑ d : Fin 768, a0 m c (ix2 t d) * a4 m c (ix2 e d)
/-- The weight of the token's first expert. -/
abbrev weight (t : Fin 2048) : EReal :=
  Ideal.div 1 (1 + Ideal.exp (Top.mx (Top.drop (logits m c t) (Top.i1 (logits m c t))) - Top.mx (logits m c t)))

section Entries
variable (t : Fin 2048)

/-- The logits read from the first point's blocks are the token's. -/
theorem lg_eq : Gate.lg (iblk m c 0 t0 : Vec Ideal S2048x768 .f32) (iblk m c 4 t0) t = logits m c t := by
  funext e
  unfold Gate.lg
  exact Finset.sum_congr rfl fun d _ => by rw [blk0, blk4]

/-- An entry of the rounded rows. -/
theorem XB_apply (d : Fin 768) : XB m c (ix2 t d) = a0 m c (ix2 t d) := by
  rw [XB_eq]
  exact blk0 m c t0 t d

/-- The token's weight, read from scratch. -/
theorem PP_apply : col0 (PP m c) (ix2 t 0) = weight m c t := by
  rw [PP_eq, TileRead.col0_pay31, Gate.pay17_apply, lg_eq]

/-- The first mask at a lane. -/
theorem lo_apply (l : Fin 64) : lo (MK m c) (ix2 t l) = if l.val / 8 = (Top.i1 (logits m c t)).val then 1 else 0 := by
  rw [MK_lo_eq, Gate.mask1_apply, lg_eq]

/-- The second mask at a lane. -/
theorem hi_apply (l : Fin 64) : hi (MK m c) (ix2 t l) = if l.val / 8 = (Top.i2 (logits m c t)).val then 1 else 0 := by
  rw [MK_hi_eq, Gate.mask2_apply, lg_eq]

/-- The gate projection of the low-rank factor at a lane. -/
theorem p23 (e r : Fin 8) : k0_pay23 (iblk m c 0 t0 : Vec Ideal S2048x768 .f32) (iblk m c 5 t0) (ix2 t (lane e r))
    = ∑ d : Fin 768, a0 m c (ix2 t d) * a5 m c (ix3 e r d) := by
  rw [TileRead.pay23_apply]
  exact Finset.sum_congr rfl fun d _ => by rw [blk0, blk5]

/-- The up projection of the low-rank factor at a lane. -/
theorem p24 (e r : Fin 8) : k0_pay24 (iblk m c 0 t0 : Vec Ideal S2048x768 .f32) (iblk m c 6 t0) (ix2 t (lane e r))
    = ∑ d : Fin 768, a0 m c (ix2 t d) * a7 m c (ix3 e r d) := by
  rw [TileRead.pay24_apply]
  exact Finset.sum_congr rfl fun d _ => by rw [blk0, blk6]

/-- The first part of the masked projections at a lane. -/
theorem um0_apply (l : Fin 64) : um0 (UM m c) (ix2 t l) = k0_pay23 (iblk m c 0 t0 : Vec Ideal S2048x768 .f32) (iblk m c 5 t0) (ix2 t l)
    * if l.val / 8 = (Top.i1 (logits m c t)).val then 1 else 0 := by
  rw [UM0_eq, ← lg_eq, ← Gate.mask1_apply]
  rfl

/-- The second part of the masked projections at a lane. -/
theorem um1_apply (l : Fin 64) : um1 (UM m c) (ix2 t l) = k0_pay24 (iblk m c 0 t0 : Vec Ideal S2048x768 .f32) (iblk m c 6 t0) (ix2 t l)
    * if l.val / 8 = (Top.i1 (logits m c t)).val then 1 else 0 := by
  rw [UM1_eq, ← lg_eq, ← Gate.mask1_apply]
  rfl

/-- The third part of the masked projections at a lane. -/
theorem um2_apply (l : Fin 64) : um2 (UM m c) (ix2 t l) = k0_pay23 (iblk m c 0 t0 : Vec Ideal S2048x768 .f32) (iblk m c 5 t0) (ix2 t l)
    * if l.val / 8 = (Top.i2 (logits m c t)).val then 1 else 0 := by
  rw [UM2_eq, ← lg_eq, ← Gate.mask2_apply]
  rfl

/-- The fourth part of the masked projections at a lane. -/
theorem um3_apply (l : Fin 64) : um3 (UM m c) (ix2 t l) = k0_pay24 (iblk m c 0 t0 : Vec Ideal S2048x768 .f32) (iblk m c 6 t0) (ix2 t l)
    * if l.val / 8 = (Top.i2 (logits m c t)).val then 1 else 0 := by
  rw [UM3_eq, ← lg_eq, ← Gate.mask2_apply]
  rfl

/-- The first third of the stacked output factors. -/
theorem sm0_apply (x : Vec Ideal S192x256 .bf16) (e r : Fin 8) (k : Fin 256) :
    sm0 x (ix2 (lane e r) k) = x (ix2 ⟨8 * e.val + r.val, by omega⟩ k) := by pointwise [sm0]

/-- The second third of the stacked output factors. -/
theorem sm1_apply (x : Vec Ideal S192x256 .bf16) (e r : Fin 8) (k : Fin 256) :
    sm1 x (ix2 (lane e r) k) = x (ix2 ⟨64 + (8 * e.val + r.val), by omega⟩ k) := by pointwise [sm1]

/-- The last third of the stacked output factors. -/
theorem sm2_apply (x : Vec Ideal S192x256 .bf16) (e r : Fin 8) (k : Fin 256) :
    sm2 x (ix2 (lane e r) k) = x (ix2 ⟨128 + (8 * e.val + r.val), by omega⟩ k) := by pointwise [sm2]

/-! ## A tile's values -/

/-- The projection of one expert at a tile's column. -/
abbrev gateProj (t : Fin 2048) : Fin 8 → Fin 2048 → EReal :=
  proj (row m c t) (fun f d => a1 m c (ix2 f d)) (fun e r d => a5 m c (ix3 e r d)) (fun e f r => a6 m c (ix3 e f r))
/-- The other projection of one expert at a tile's column. -/
abbrev upProj (t : Fin 2048) : Fin 8 → Fin 2048 → EReal :=
  proj (row m c t) (fun f d => a2 m c (ix2 f d)) (fun e r d => a7 m c (ix3 e r d)) (fun e f r => a8 m c (ix3 e f r))
/-- The activation of one expert. -/
abbrev actAt (t : Fin 2048) : Fin 8 → Fin 2048 → EReal := fun e f => glu (gateProj m c t e f) (upProj m c t e f)

variable (q : Fin cfg0.N) (h : q.val < 8) (k : Fin 256)

/-- The masked lanes give the gate projection of the masked expert. -/
theorem gate_tile (i : Fin 8) : (∑ d : Fin 768, XB m c (ix2 t d) * (iblk m c 1 q : Vec Ideal S256x768 .f32) (ix2 k d))
      + ∑ l : Fin 64, (k0_pay23 (iblk m c 0 t0 : Vec Ideal S2048x768 .f32) (iblk m c 5 t0) (ix2 t l) * if l.val / 8 = i.val then 1 else 0)
          * sm0 (iblk m c 7 q) (ix2 l k)
    = gateProj m c t i (col ⟨q.val, h⟩ k) := by
  rw [sum_masked i (fun l => k0_pay23 (iblk m c 0 t0 : Vec Ideal S2048x768 .f32) (iblk m c 5 t0) (ix2 t l)) (fun l => sm0 (iblk m c 7 q) (ix2 l k))]
  refine congrArg₂ (· + ·) (Finset.sum_congr rfl fun d _ => ?_) (Finset.sum_congr rfl fun r _ => ?_)
  · rw [XB_apply, blk1 m c q k d h]
  · rw [p23, sm0_apply, blk7_0 m c q i r k h]

/-- The masked lanes give the up projection of the masked expert. -/
theorem up_tile (i : Fin 8) : (∑ d : Fin 768, XB m c (ix2 t d) * (iblk m c 2 q : Vec Ideal S256x768 .f32) (ix2 k d))
      + ∑ l : Fin 64, (k0_pay24 (iblk m c 0 t0 : Vec Ideal S2048x768 .f32) (iblk m c 6 t0) (ix2 t l) * if l.val / 8 = i.val then 1 else 0)
          * sm1 (iblk m c 7 q) (ix2 l k)
    = upProj m c t i (col ⟨q.val, h⟩ k) := by
  rw [sum_masked i (fun l => k0_pay24 (iblk m c 0 t0 : Vec Ideal S2048x768 .f32) (iblk m c 6 t0) (ix2 t l)) (fun l => sm1 (iblk m c 7 q) (ix2 l k))]
  refine congrArg₂ (· + ·) (Finset.sum_congr rfl fun d _ => ?_) (Finset.sum_congr rfl fun r _ => ?_)
  · rw [XB_apply, blk2 m c q k d h]
  · rw [p24, sm1_apply, blk7_1 m c q i r k h]

/-- The first expert's weighted activation at a tile's column. -/
theorem s0_tile : s0 (iblk m c 1 q) (iblk m c 2 q) (iblk m c 7 q) (XB m c) (UM m c) (PP m c) (ix2 t k)
    = actAt m c t (Top.i1 (logits m c t)) (col ⟨q.val, h⟩ k) * weight m c t := by
  rw [TileRead.s0_apply, PP_apply]
  simp only [um0_apply, um1_apply]
  rw [gate_tile m c t q h k, up_tile m c t q h k]

/-- The second expert's weighted activation at a tile's column. -/
theorem s1_tile : s1 (iblk m c 1 q) (iblk m c 2 q) (iblk m c 7 q) (XB m c) (UM m c) (PP m c) (ix2 t k)
    = actAt m c t (Top.i2 (logits m c t)) (col ⟨q.val, h⟩ k) * (1 - weight m c t) := by
  rw [TileRead.s1_apply, PP_apply]
  simp only [um2_apply, um3_apply]
  rw [gate_tile m c t q h k, up_tile m c t q h k]

end Entries

/-! ## The whole result -/

section Whole
variable (t : Fin 2048)

/-- Every tile is a grid point. -/
theorem grid (j : Fin 8) : j.val < cfg0.N := lt_of_lt_of_eq j.isLt N_0.symm

/-- The tiles' shared down projections add up to the whole hidden width's. -/
theorem con_sum (d : Fin 768) : ∑ k ∈ Finset.range 8, conAt m c k (ix2 t d)
    = ∑ f, (actAt m c t (Top.i1 (logits m c t)) f * weight m c t + actAt m c t (Top.i2 (logits m c t)) f * (1 - weight m c t))
        * a3 m c (ix2 d f) := by
  rw [Finset.sum_range, sum_col]
  refine Finset.sum_congr rfl fun j _ => ?_
  unfold conAt
  rw [dif_pos (grid j), TileRead.con_apply]
  exact Finset.sum_congr rfl fun k _ => by
    rw [s0_tile m c t ⟨j.val, grid j⟩ j.isLt, s1_tile m c t ⟨j.val, grid j⟩ j.isLt, blk3 m c ⟨j.val, grid j⟩ d k j.isLt]

/-- The first accumulator's lane holds the first expert's low-rank down projection. -/
theorem y0_sum (e r : Fin 8) : ∑ k ∈ Finset.range 8, y0At m c k (ix2 t (lane e r))
    = ∑ f, actAt m c t (Top.i1 (logits m c t)) f * weight m c t * a9 m c (ix3 e r f) := by
  rw [Finset.sum_range, sum_col]
  refine Finset.sum_congr rfl fun j _ => ?_
  unfold y0At
  rw [dif_pos (grid j), TileRead.y0_apply]
  exact Finset.sum_congr rfl fun k _ => by
    rw [s0_tile m c t ⟨j.val, grid j⟩ j.isLt, sm2_apply, blk7_2 m c ⟨j.val, grid j⟩ e r k j.isLt]

/-- The second accumulator's lane holds the second expert's low-rank down projection. -/
theorem y1_sum (e r : Fin 8) : ∑ k ∈ Finset.range 8, y1At m c k (ix2 t (lane e r))
    = ∑ f, actAt m c t (Top.i2 (logits m c t)) f * (1 - weight m c t) * a9 m c (ix3 e r f) := by
  rw [Finset.sum_range, sum_col]
  refine Finset.sum_congr rfl fun j _ => ?_
  unfold y1At
  rw [dif_pos (grid j), TileRead.y1_apply]
  exact Finset.sum_congr rfl fun k _ => by
    rw [s1_tile m c t ⟨j.val, grid j⟩ j.isLt, sm2_apply, blk7_2 m c ⟨j.val, grid j⟩ e r k j.isLt]

/-- The kernel's result at an entry. -/
theorem value (hl : ∀ e, logits m c t e ≠ ⊥) (d : Fin 768) : Value.G9 m c (ix2 t d)
    = kernelValue (row m c t) (fun f d => a1 m c (ix2 f d)) (fun f d => a2 m c (ix2 f d)) (fun d f => a3 m c (ix2 d f))
        (fun e r d => a5 m c (ix3 e r d)) (fun e f r => a6 m c (ix3 e f r)) (fun e r d => a7 m c (ix3 e r d)) (fun e f r => a8 m c (ix3 e f r))
        (fun e r f => a9 m c (ix3 e r f)) (fun e d r => a10 m c (ix3 e d r))
        (Top.i1 (logits m c t)) (Top.i2 (logits m c t)) (weight m c t) d := by
  rw [result, TileRead.pay10_apply, con_sum]
  simp only [lo_apply, hi_apply]
  rw [sum_masked₂ _ _ (Top.top2 (logits m c t) hl).ne (fun l => ∑ k ∈ Finset.range 8, y0At m c k (ix2 t l))
    (fun l => ∑ k ∈ Finset.range 8, y1At m c k (ix2 t l)) (fun l => (iblk m c 8 ⟨7, seven_lt⟩ : Vec Ideal S64x768 .bf16) (ix2 l d))]
  unfold kernelValue low act
  refine congrArg₂ (· + ·) rfl (congrArg₂ (· + ·) (Finset.sum_congr rfl fun r _ => ?_) (Finset.sum_congr rfl fun r _ => ?_))
  · dsimp only
    rw [y0_sum, blk8]
  · dsimp only
    rw [y1_sum, blk8]

end Whole

end Cert.KernelIdeal.KernelRead

end
-- ==== Proof.TopK.lean ====
/-
  The host's two largest along the last axis: the stable descending sort's first two positions are the largest value's first
  position and the largest remaining value's first position.
-/
module

public import Idealize.ShloMosaic.PureOps.Ideal
public import Idealize.ShloMosaic.Lib.SortFacts
public import Idealize.ShloMosaic.Lib.Pointwise
public import proofs.«01_k».proof.Proof.Top

@[expose] public section

noncomputable section

open Idealize.ShloMosaic

namespace Cert.TopK

open Cert.Top

variable {n : ℕ} (w : Fin n → EReal)

/-- Position `a` precedes `b`: its value is larger, or equal at a lower position. -/
def Pre (a b : Fin n) : Prop := w b < w a ∨ (w b = w a ∧ a < b)

variable (before : Fin n → Fin n → Bool) (hb : ∀ a b, before a b = true ↔ w b < w a)

include hb in
/-- Inserting a position lower than all the list's keeps the list in order. -/
theorem pairwise_insert (a : Fin n) (l : List (Fin n)) (hl : l.Pairwise (Pre w)) (ha : ∀ b ∈ l, a < b) :
    (insertBefore before a l).Pairwise (Pre w) := by
  induction l with
  | nil => exact List.pairwise_singleton _ _
  | cons b l ih =>
    unfold insertBefore
    rw [List.pairwise_cons] at hl
    split
    · rename_i h
      refine List.pairwise_cons.mpr ⟨fun x hx => ?_, ih hl.2 fun c hc => ha c (List.mem_cons_of_mem _ hc)⟩
      rcases List.mem_cons.mp ((perm_insertBefore before a l).mem_iff.mp hx) with rfl | hx
      · exact Or.inl ((hb _ _).mp h)
      · exact hl.1 x hx
    · rename_i h
      have hle : w b ≤ w a := not_lt.mp fun h' => h ((hb _ _).mpr h')
      have key : ∀ x, x ∈ b :: l → w x ≤ w a := fun x hx => by
        rcases List.mem_cons.mp hx with rfl | hx
        · exact hle
        · rcases hl.1 x hx with h' | ⟨h', _⟩
          · exact h'.le.trans hle
          · exact h'.le.trans hle
      refine List.pairwise_cons.mpr ⟨fun x hx => ?_, List.pairwise_cons.mpr hl⟩
      rcases (key x hx).lt_or_eq with h' | h'
      · exact Or.inl h'
      · exact Or.inr ⟨h', ha x hx⟩

include hb in
/-- The stable sort of an increasing list of positions is in order. -/
theorem pairwise_sort (l : List (Fin n)) (hl : l.Pairwise (· < ·)) : (stableSort before l).Pairwise (Pre w) := by
  induction l with
  | nil => exact List.Pairwise.nil
  | cons a l ih =>
    rw [List.pairwise_cons] at hl
    exact pairwise_insert w before hb a _ (ih hl.2) fun b h => hl.1 b ((perm_stableSort before l).mem_iff.mp h)

include hb in
/-- Earlier places of the sort hold positions that precede. -/
theorem sorted_pre (j k : Fin n) (h : j < k) : Pre w (sortedFrom before j) (sortedFrom before k) :=
  List.pairwise_iff_get.mp (pairwise_sort w before hb _ (List.pairwise_lt_finRange n)) _ _ h

/-- Whatever is not at the first place is preceded by what is. -/
theorem first_pre (w : Fin 8 → EReal) (before : Fin 8 → Fin 8 → Bool) (hb : ∀ a b, before a b = true ↔ w b < w a)
    (e : Fin 8) (he : e ≠ sortedFrom before 0) : Pre w (sortedFrom before 0) e := by
  obtain ⟨k, rfl⟩ := sortedFrom_surjective before e
  refine sorted_pre w before hb 0 k (Fin.pos_of_ne_zero fun h => he (by rw [h]))

/-- Whatever is not at the first two places is preceded by what is at the second. -/
theorem second_pre (w : Fin 8 → EReal) (before : Fin 8 → Fin 8 → Bool) (hb : ∀ a b, before a b = true ↔ w b < w a)
    (e : Fin 8) (he : e ≠ sortedFrom before 0) (he' : e ≠ sortedFrom before 1) : Pre w (sortedFrom before 1) e := by
  obtain ⟨k, rfl⟩ := sortedFrom_surjective before e
  have h0 : k ≠ 0 := fun h => he (by rw [h])
  have h1 : k ≠ 1 := fun h => he' (by rw [h])
  exact sorted_pre w before hb 1 k (by omega)

/-- A position that precedes has no smaller value. -/
theorem Pre.le {w : Fin 8 → EReal} {a b : Fin 8} (h : Pre w a b) : w b ≤ w a := by
  rcases h with h | ⟨h, _⟩
  · exact h.le
  · exact h.le

/-- A position that precedes a lower one has the larger value. -/
theorem Pre.lt {w : Fin 8 → EReal} {a b : Fin 8} (h : Pre w a b) (hlt : b < a) : w b < w a := by
  rcases h with h | ⟨_, h⟩
  · exact h
  · exact absurd h (not_lt.mpr hlt.le)

/-- The first two places of the stable descending sort of eight values are the two largest. -/
theorem top2_sorted (w : Fin 8 → EReal) (before : Fin 8 → Fin 8 → Bool) (hb : ∀ a b, before a b = true ↔ w b < w a) :
    Top2 w (sortedFrom before 0) (sortedFrom before 1) where
  ne h := absurd (sortedFrom_injective before h) (by decide)
  le e := by
    by_cases he : e = sortedFrom before 0
    · exact (congrArg w he).le
    · exact (first_pre w before hb e he).le
  lt e he := (first_pre w before hb e he.ne).lt he
  le' e he := by
    by_cases he' : e = sortedFrom before 1
    · exact (congrArg w he').le
    · exact (second_pre w before hb e he he').le
  lt' e he hlt := (second_pre w before hb e he hlt.ne).lt hlt

end Cert.TopK

end
-- ==== Proof.RefRead.lean ====
/-
  The reference's result read entry by entry: over the eight experts, the expert's output times the token's weight for it.
-/
module

public import proofs.«01_k».proof.Proof.Gen.ReferenceIdeal.Run
public import proofs.«01_k».proof.Proof.Spec
public import proofs.«01_k».proof.Proof.TopK
public import Idealize.ShloMosaic.Lib.Pointwise
public import Idealize.ShloMosaic.PureOps.Ideal

@[expose] public section

noncomputable section

open Idealize.ShloMosaic Idealize.ShloMosaic.TcCoe Idealize.SL.Sem

namespace Cert.ReferenceIdeal.RefRead

open Cert.ReferenceIdeal Cert.ReferenceIdeal.Gen Cert.ReferenceIdeal.Value Cert.Spec

/-! ## One expert's operations -/

/-- A projection by the shared weight and one expert's low-rank one, the shared one's product given. -/
def projV (c : Vec Ideal S2048x2048 .f32) (x : Vec Ideal S2048x768 .f32) (a : Vec Ideal S8x768 .f32) (b : Vec Ideal S2048x8 .f32) :
    Vec Ideal S2048x2048 .f32 :=
  addf c (Host.dotGeneral (F := Ideal) (φ₁ := .f32) (φ₂ := .f32) dot_S2048x8_S8x2048_S2048x2048_1_0_0_1_n_n none
    (Host.dotGeneral (F := Ideal) (φ₁ := .f32) (φ₂ := .f32) dot_S2048x768_S768x8_S2048x8_1_0_0_1_n_n none x (transpose S768x8 [1, 0] a transposes_S8x768_S768x8_1_0))
    (transpose S8x2048 [1, 0] b transposes_S2048x8_S8x2048_1_0))

/-- The projection at an entry. -/
theorem projV_apply (c : Vec Ideal S2048x2048 .f32) (x : Vec Ideal S2048x768 .f32) (a : Vec Ideal S8x768 .f32) (b : Vec Ideal S2048x8 .f32)
    (t f : Fin 2048) : projV c x a b (ix2 t f)
      = c (ix2 t f) + ∑ r : Fin 8, (∑ d : Fin 768, x (ix2 t d) * a (ix2 r d)) * b (ix2 f r) := by
  unfold projV
  pointwise

/-- The gated product of two projections. -/
def actV (u v : Vec Ideal S2048x2048 .f32) : Vec Ideal S2048x2048 .f32 :=
  mulf (F := Ideal) (φ := .f32) (mulf u (Host.divf (broadcastInDim S2048x2048 ![] bcast_S_S2048x2048 (constant S_ .f32 0x3F800000#32))
    (addf (broadcastInDim S2048x2048 ![] bcast_S_S2048x2048 (constant S_ .f32 0x3F800000#32)) (Host.exp (Host.negf u))))) v

/-- The gated product at an entry. -/
theorem actV_apply (u v : Vec Ideal S2048x2048 .f32) (t f : Fin 2048) : actV u v (ix2 t f) = glu (u (ix2 t f)) (v (ix2 t f)) := by
  unfold actV glu Ideal.logistic
  pointwise

/-- An expert's share of the output. -/
def termV (s : Vec Ideal S2048x2048 .f32) (w2 : Vec Ideal S768x2048 .f32) (a : Vec Ideal S8x2048 .f32) (b : Vec Ideal S768x8 .f32)
    (rw : Vec Ideal S2048x2 .f32) (idx : Vec Ideal S2048x2 .i32) (e : BitVec 32) : Vec Ideal S2048x768 .f32 :=
  mulf (F := Ideal) (φ := .f32) (addf (Host.dotGeneral (F := Ideal) (φ₁ := .f32) (φ₂ := .f32) dot_S2048x2048_S2048x768_S2048x768_1_0_0_1_n_n none s (transpose S2048x768 [1, 0] w2 transposes_S768x2048_S2048x768_1_0))
      (Host.dotGeneral (F := Ideal) (φ₁ := .f32) (φ₂ := .f32) dot_S2048x8_S8x768_S2048x768_1_0_0_1_n_n none
        (Host.dotGeneral (F := Ideal) (φ₁ := .f32) (φ₂ := .f32) dot_S2048x2048_S2048x8_S2048x8_1_0_0_1_n_n none s (transpose S2048x8 [1, 0] a transposes_S8x2048_S2048x8_1_0))
        (transpose S8x768 [1, 0] b transposes_S768x8_S8x768_1_0)))
    (broadcastInDim S2048x768 ![0, 1] bcast_S2048x1_S2048x768_0_1 (broadcastInDim S2048x1 ![0] bcast_S2048_S2048x1_0
      (Host.reduceAdd (mulf rw (uitofp .f32 (cmpi .eq idx (broadcastInDim S2048x2 ![] bcast_S_S2048x2 (constantI S_ 32 e)))))
        (constant S_ .f32 0x00000000#32) reducesTo_S2048x2_S2048_d1 h_S_)))

/-- The number of a word comparison's bit is one where the words agree and zero elsewhere. -/
theorem ind_eq (a b : BitVec 32) : (FloatOps.uitofp FTy.f32 (IntOp.cmpi CmpIPredicate.eq a b) : Ideal .f32) = if a = b then (1 : EReal) else 0 := by
  by_cases h : a = b
  · rw [if_pos h, h]
    simp [IntOp.cmpi, FloatOps.uitofp]
  · rw [if_neg h]
    simp [IntOp.cmpi, FloatOps.uitofp, h]

/-- An expert's share at an entry. -/
theorem termV_apply (s : Vec Ideal S2048x2048 .f32) (w2 : Vec Ideal S768x2048 .f32) (a : Vec Ideal S8x2048 .f32) (b : Vec Ideal S768x8 .f32)
    (rw : Vec Ideal S2048x2 .f32) (idx : Vec Ideal S2048x2 .i32) (e : BitVec 32) (t : Fin 2048) (d : Fin 768) :
    termV s w2 a b rw idx e (ix2 t d)
      = ((∑ f : Fin 2048, s (ix2 t f) * w2 (ix2 d f)) + ∑ r : Fin 8, (∑ f : Fin 2048, s (ix2 t f) * a (ix2 r f)) * b (ix2 d r))
        * (rw (ix2 t 0) * (if idx (ix2 t 0) = e then 1 else 0) + rw (ix2 t 1) * (if idx (ix2 t 1) = e then 1 else 0)) := by
  unfold termV
  pointwise
  rw [Fin.sum_univ_two, ind_eq, ind_eq]

/-! ## Slicing one expert out -/

/-- A slice along the first axis fits. -/
theorem fits_in (e : Fin 8) : S8x8x768.Slices ![e.val, 0, 0] S1x8x768 := by revert e; decide
/-- A slice along the first axis fits. -/
theorem fits_up (e : Fin 8) : S8x2048x8.Slices ![e.val, 0, 0] S1x2048x8 := by revert e; decide
/-- A slice along the first axis fits. -/
theorem fits_hid (e : Fin 8) : S8x8x2048.Slices ![e.val, 0, 0] S1x8x2048 := by revert e; decide
/-- A slice along the first axis fits. -/
theorem fits_out (e : Fin 8) : S8x768x8.Slices ![e.val, 0, 0] S1x768x8 := by revert e; decide

/-- One expert's input factor. -/
def sliceIn (x : Vec Ideal S8x8x768 .f32) (e : Fin 8) : Vec Ideal S8x768 .f32 :=
  shapeCast S8x768 (extractStridedSlice S1x8x768 ![e.val, 0, 0] x (fits_in e)) shapeCasts_S1x8x768_S8x768
/-- One expert's factor into the hidden width. -/
def sliceUp (x : Vec Ideal S8x2048x8 .f32) (e : Fin 8) : Vec Ideal S2048x8 .f32 :=
  shapeCast S2048x8 (extractStridedSlice S1x2048x8 ![e.val, 0, 0] x (fits_up e)) shapeCasts_S1x2048x8_S2048x8
/-- One expert's factor out of the hidden width. -/
def sliceHid (x : Vec Ideal S8x8x2048 .f32) (e : Fin 8) : Vec Ideal S8x2048 .f32 :=
  shapeCast S8x2048 (extractStridedSlice S1x8x2048 ![e.val, 0, 0] x (fits_hid e)) shapeCasts_S1x8x2048_S8x2048
/-- One expert's output factor. -/
def sliceOut (x : Vec Ideal S8x768x8 .f32) (e : Fin 8) : Vec Ideal S768x8 .f32 :=
  shapeCast S768x8 (extractStridedSlice S1x768x8 ![e.val, 0, 0] x (fits_out e)) shapeCasts_S1x768x8_S768x8

/-- An entry of one expert's input factor. -/
theorem sliceIn_apply (x : Vec Ideal S8x8x768 .f32) (e r : Fin 8) (d : Fin 768) : sliceIn x e (ix2 r d) = x (ix3 e r d) := by
  unfold sliceIn
  pointwise
/-- An entry of one expert's factor into the hidden width. -/
theorem sliceUp_apply (x : Vec Ideal S8x2048x8 .f32) (e r : Fin 8) (f : Fin 2048) : sliceUp x e (ix2 f r) = x (ix3 e f r) := by
  unfold sliceUp
  pointwise
/-- An entry of one expert's factor out of the hidden width. -/
theorem sliceHid_apply (x : Vec Ideal S8x8x2048 .f32) (e r : Fin 8) (f : Fin 2048) : sliceHid x e (ix2 r f) = x (ix3 e r f) := by
  unfold sliceHid
  pointwise
/-- An entry of one expert's output factor. -/
theorem sliceOut_apply (x : Vec Ideal S8x768x8 .f32) (e r : Fin 8) (d : Fin 768) : sliceOut x e (ix2 d r) = x (ix3 e d r) := by
  unfold sliceOut
  pointwise

/-! ## The reference's results -/

variable (V0 : Valuation τ sig (Elt Ideal))

/-- The input's array. -/
abbrev b0 : Vec Ideal S2048x768 .f32 := V0 (Proc.devRef .tc main_arg0)
/-- The gate projection. -/
abbrev b1 : Vec Ideal S2048x768 .f32 := V0 (Proc.devRef .tc main_arg1)
/-- The up projection. -/
abbrev b2 : Vec Ideal S2048x768 .f32 := V0 (Proc.devRef .tc main_arg2)
/-- The down projection. -/
abbrev b3 : Vec Ideal S768x2048 .f32 := V0 (Proc.devRef .tc main_arg3)
/-- The expert gate. -/
abbrev b4 : Vec Ideal S8x768 .f32 := V0 (Proc.devRef .tc main_arg4)
/-- The gate projection's low-rank input factors. -/
abbrev b5 : Vec Ideal S8x8x768 .f32 := V0 (Proc.devRef .tc main_arg5)
/-- The gate projection's low-rank output factors. -/
abbrev b6 : Vec Ideal S8x2048x8 .f32 := V0 (Proc.devRef .tc main_arg6)
/-- The up projection's low-rank input factors. -/
abbrev b7 : Vec Ideal S8x8x768 .f32 := V0 (Proc.devRef .tc main_arg7)
/-- The up projection's low-rank output factors. -/
abbrev b8 : Vec Ideal S8x2048x8 .f32 := V0 (Proc.devRef .tc main_arg8)
/-- The down projection's low-rank input factors. -/
abbrev b9 : Vec Ideal S8x8x2048 .f32 := V0 (Proc.devRef .tc main_arg9)
/-- The down projection's low-rank output factors. -/
abbrev b10 : Vec Ideal S8x768x8 .f32 := V0 (Proc.devRef .tc main_arg10)

/-- Expert `e`'s hidden activation, as the reference computes it. -/
def hid (e : Fin 8) : Vec Ideal S2048x2048 .f32 :=
  actV (projV (res_main_v1 V0) (b0 V0) (sliceIn (b5 V0) e) (sliceUp (b6 V0) e)) (projV (res_main_v3 V0) (b0 V0) (sliceIn (b7 V0) e) (sliceUp (b8 V0) e))

/-- Expert `e`'s share of the output, as the reference computes it. -/
def term (e : Fin 8) : Vec Ideal S2048x768 .f32 :=
  termV (hid V0 e) (b3 V0) (sliceHid (b9 V0) e) (sliceOut (b10 V0) e) (res_main_v20 V0) (res_main_indices V0) (BitVec.ofNat 32 e.val)

/-- The shared gate product at an entry. -/
theorem v1_apply (t f : Fin 2048) : res_main_v1 V0 (ix2 t f) = ∑ d : Fin 768, b0 V0 (ix2 t d) * b1 V0 (ix2 f d) := by
  unfold res_main_v1
  pointwise
/-- The shared up product at an entry. -/
theorem v3_apply (t f : Fin 2048) : res_main_v3 V0 (ix2 t f) = ∑ d : Fin 768, b0 V0 (ix2 t d) * b2 V0 (ix2 f d) := by
  unfold res_main_v3
  pointwise
/-- A gate logit. -/
theorem v5_apply (t : Fin 2048) (e : Fin 8) : res_main_v5 V0 (ix2 t e) = ∑ d : Fin 768, b0 V0 (ix2 t d) * b4 V0 (ix2 e d) := by
  unfold res_main_v5
  pointwise

/-- The first expert's activation. -/
theorem hid_0 : res_main_v41 V0 = hid V0 0 := rfl
/-- The second expert's activation. -/
theorem hid_1 : res_main_v81 V0 = hid V0 1 := rfl
/-- The third expert's activation. -/
theorem hid_2 : res_main_v121 V0 = hid V0 2 := rfl
/-- The fourth expert's activation. -/
theorem hid_3 : res_main_v161 V0 = hid V0 3 := rfl
/-- The fifth expert's activation. -/
theorem hid_4 : res_main_v201 V0 = hid V0 4 := rfl
/-- The sixth expert's activation. -/
theorem hid_5 : res_main_v241 V0 = hid V0 5 := rfl
/-- The seventh expert's activation. -/
theorem hid_6 : res_main_v281 V0 = hid V0 6 := rfl
/-- The eighth expert's activation. -/
theorem hid_7 : res_main_v321 V0 = hid V0 7 := rfl

/-- The reference's zero start. -/
def zeroV : Vec Ideal S2048x768 .f32 := broadcastInDim S2048x768 ![] bcast_S_S2048x768 (constant (F := Ideal) S_ .f32 0x00000000#32)

/-- The sum over the first four experts. -/
theorem v181_eq : res_main_v181 V0
    = addf (F := Ideal) (φ := .f32) (addf (addf (addf zeroV (term V0 0)) (term V0 1)) (term V0 2)) (term V0 3) := by
  unfold res_main_v181
  rw [hid_0, hid_1, hid_2, hid_3]
  rfl

/-- The sum over all eight experts. -/
theorem v341_eq : res_main_v341 V0
    = addf (F := Ideal) (φ := .f32) (addf (addf (addf (res_main_v181 V0) (term V0 4)) (term V0 5)) (term V0 6)) (term V0 7) := by
  unfold res_main_v341
  rw [hid_4, hid_5, hid_6, hid_7]
  rfl

/-- The zero start at an entry. -/
theorem zeroV_apply (t : Fin 2048) (d : Fin 768) : zeroV (ix2 t d) = 0 := by
  unfold zeroV
  pointwise

/-- The reference's result at an entry is the sum of the experts' shares. -/
theorem v341_apply (t : Fin 2048) (d : Fin 768) : res_main_v341 V0 (ix2 t d) = ∑ e, term V0 e (ix2 t d) := by
  rw [v341_eq, v181_eq, Fin.sum_univ_eight]
  generalize term V0 0 = t0
  generalize term V0 1 = t1
  generalize term V0 2 = t2
  generalize term V0 3 = t3
  generalize term V0 4 = t4
  generalize term V0 5 = t5
  generalize term V0 6 = t6
  generalize term V0 7 = t7
  have h := zeroV_apply t d
  generalize zeroV = z at h
  pointwise
  rw [h, zero_add]

end Cert.ReferenceIdeal.RefRead

end
-- ==== Proof.RefGate.lean ====
/-
  The reference's routing read entry by entry: the softmax of the gate logits, its two largest entries, and their normalised
  weights.
-/
module

public import proofs.«01_k».proof.Proof.RefRead

@[expose] public section

noncomputable section

open Idealize.ShloMosaic Idealize.ShloMosaic.TcCoe Idealize.SL.Sem

namespace Cert.ReferenceIdeal.RefGate

open Cert.ReferenceIdeal Cert.ReferenceIdeal.Gen Cert.ReferenceIdeal.Value Cert.ReferenceIdeal.RefRead Cert.Spec Cert.Top Cert.TopK

variable (V0 : Valuation τ sig (Elt Ideal)) (t : Fin 2048)

/-- Expert `e`'s hidden activation at an entry. -/
theorem hid_apply (e : Fin 8) (f : Fin 2048) : hid V0 e (ix2 t f)
    = act (fun d => b0 V0 (ix2 t d)) (fun f d => b1 V0 (ix2 f d)) (fun f d => b2 V0 (ix2 f d)) (fun e r d => b5 V0 (ix3 e r d))
        (fun e f r => b6 V0 (ix3 e f r)) (fun e r d => b7 V0 (ix3 e r d)) (fun e f r => b8 V0 (ix3 e f r)) e f := by
  unfold hid act proj
  rw [actV_apply, projV_apply, projV_apply, v1_apply, v3_apply]
  simp only [sliceIn_apply, sliceUp_apply]

/-- The token's gate logits. -/
abbrev logits (e : Fin 8) : EReal := ∑ d : Fin 768, b0 V0 (ix2 t d) * b4 V0 (ix2 e d)

/-- A row's largest entry. -/
theorem row_max (L : Vec Ideal S2048x8 .f32) :
    Finset.fold max ⊥ (L : S2048x8.Idx → EReal) (Finset.univ.filter fun i => reducesTo_S2048x8_S2048_d1.drop i = ix1 t) = mx fun e => L (ix2 t e) :=
  reducesTo_S2048x8_S2048_d1.fold_fiber_r2_a1 (ix1 t) (max : EReal → EReal → EReal) ⊥ L

/-- The shifted exponential of a logit. -/
theorem v12_apply (e : Fin 8) : res_main_v12 V0 (ix2 t e) = Ideal.exp (logits V0 t e - mx (logits V0 t)) := by
  have h : ∀ e, res_main_v5 V0 (ix2 t e) = logits V0 t e := fun e => v5_apply V0 t e
  unfold res_main_v12
  have hn : Ideal.ofBits .f32 0xFF800000#32 = ⊥ := by simp [Ideal.ofBits, Ideal.ieee]
  generalize res_main_v5 V0 = L at h
  pointwise
  rw [hn, max_eq_right bot_le, h, ← funext h]
  exact congrArg (fun z : EReal => Ideal.exp (HSub.hSub (α := EReal) (β := EReal) (L (ix2 t e)) z)) (row_max t L)

/-- A softmax entry. -/
theorem v16_apply (e : Fin 8) : res_main_v16 V0 (ix2 t e)
    = Ideal.div (Ideal.exp (logits V0 t e - mx (logits V0 t))) (∑ e, Ideal.exp (logits V0 t e - mx (logits V0 t))) := by
  have h : ∀ e, res_main_v12 V0 (ix2 t e) = Ideal.exp (logits V0 t e - mx (logits V0 t)) := fun e => v12_apply V0 t e
  unfold res_main_v16
  generalize res_main_v12 V0 = L at h
  pointwise
  simp only [h]

/-- The softmax of the token's logits. -/
abbrev soft (e : Fin 8) : EReal := res_main_v16 V0 (ix2 t e)

/-- Whether a place's softmax entry is larger than another's. -/
def before (a b : Fin 8) : Bool := FloatOps.cmpfTotal (F := Ideal) (φ := .f32) .gt (soft V0 t a) (soft V0 t b) == 1#1

/-- The order is the extended reals'. -/
theorem before_iff (a b : Fin 8) : before V0 t a b = true ↔ soft V0 t b < soft V0 t a := by
  unfold before
  generalize soft V0 t a = x
  generalize soft V0 t b = y
  rw [beq_iff_eq]
  by_cases h : y < x
  · simp [FloatOps.cmpfTotal, Ideal.cmpTotal, Ideal.cmp, CmpDirection.ordered, h]
  · simp [FloatOps.cmpfTotal, Ideal.cmpTotal, Ideal.cmp, CmpDirection.ordered, h]

/-- A place of the fiber. -/
theorem along_eq (k e : Fin 8) : (ix2 t k : S2048x8.Idx).along 1 e = ix2 t e := by
  funext a
  fin_cases a
  · rfl
  · rfl

section
variable (gt : EReal → EReal → BitVec 1) (x : Vec Ideal S2048x8 .f32) (k : Fin 2)

/-- The values a two-largest keeps are the sorted row's first two. -/
theorem topK_fst : (Host.topK S2048x2 1 gt (x : S2048x8.Idx → EReal) sliceFits_S2048x8_S2048x2).1 (ix2 t k)
    = x (ix2 t (sortedFrom (fun a b => gt (x (ix2 t a)) (x (ix2 t b)) == 1#1) ⟨k.val, by omega⟩)) := by
  unfold Host.topK Host.sort2
  dsimp only
  rw [dif_pos (show 1 < S2048x8.rank by decide)]
  pointwise
  simp only [along_eq]

/-- The indices a two-largest keeps are the places of the sorted row's first two. -/
theorem topK_snd : (Host.topK S2048x2 1 gt (x : S2048x8.Idx → EReal) sliceFits_S2048x8_S2048x2).2 (ix2 t k)
    = BitVec.ofNat 32 (sortedFrom (fun a b => gt (x (ix2 t a)) (x (ix2 t b)) == 1#1) ⟨k.val, by omega⟩).val := by
  unfold Host.topK Host.sort2
  dsimp only
  rw [dif_pos (show 1 < S2048x8.rank by decide)]
  pointwise
  simp only [along_eq]
  rfl

end

/-- The values kept are the sorted softmax's first two. -/
theorem values_apply (k : Fin 2) : res_main_values V0 (ix2 t k) = soft V0 t (sortedFrom (before V0 t) ⟨k.val, by omega⟩) := by
  unfold res_main_values
  exact topK_fst t _ (res_main_v16 V0) k

/-- The indices kept are the places of the sorted softmax's first two. -/
theorem indices_apply (k : Fin 2) : res_main_indices V0 (ix2 t k) = BitVec.ofNat 32 (sortedFrom (before V0 t) ⟨k.val, by omega⟩).val := by
  unfold res_main_indices
  exact topK_snd t _ (res_main_v16 V0) k

/-- A kept value. -/
abbrev val (k : Fin 2) : EReal := res_main_values V0 (ix2 t k)

/-- A kept value's share of the two. -/
theorem v20_apply (k : Fin 2) : res_main_v20 V0 (ix2 t k) = Ideal.div (val V0 t k) (val V0 t 0 + val V0 t 1) := by
  unfold res_main_v20 val
  generalize res_main_values V0 = L
  pointwise
  rw [Fin.sum_univ_two]

end Cert.ReferenceIdeal.RefGate

end
-- ==== Proof.Weights.lean ====
/-
  Routing weights over finite logits: the softmax keeps the logits' order, and the two largest softmax entries' shares are the
  logistic function of the logits' difference.
-/
module

public import Idealize.ShloMosaic.PureOps.Ideal
public import proofs.«01_k».proof.Proof.Top

@[expose] public section

noncomputable section

open Idealize.ShloMosaic

namespace Cert.Weights

open Cert.Top

/-- A finite sum of real numbers, as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Division of real numbers by a nonzero one. -/
theorem div_coe (a b : ℝ) (hb : b ≠ 0) : Ideal.div (a : EReal) (b : EReal) = ((a / b : ℝ) : EReal) := by
  have h : (b : EReal) ≠ 0 := fun h => hb (by exact_mod_cast h)
  rw [Ideal.div, if_neg h, ← EReal.coe_inv, ← EReal.coe_mul, div_eq_mul_inv]

/-- The softmax's total. -/
def total (v : Fin 8 → ℝ) (M : ℝ) : ℝ := ∑ e, Real.exp (v e - M)

/-- The total is positive. -/
theorem total_pos (v : Fin 8 → ℝ) (M : ℝ) : 0 < total v M := Finset.sum_pos (fun _ _ => Real.exp_pos _) Finset.univ_nonempty

/-- The softmax of finite logits. -/
theorem soft_coe (v : Fin 8 → ℝ) (M : ℝ) (e : Fin 8) :
    Ideal.div (Ideal.exp ((v e : EReal) - (M : EReal))) (∑ e, Ideal.exp ((v e : EReal) - (M : EReal)))
      = ((Real.exp (v e - M) / total v M : ℝ) : EReal) := by
  have h : ∀ e, Ideal.exp ((v e : EReal) - (M : EReal)) = ((Real.exp (v e - M) : ℝ) : EReal) := fun e => by
    rw [← EReal.coe_sub, Ideal.exp_coe]
  simp only [h]
  rw [← coe_sum]
  exact div_coe _ _ (total_pos v M).ne'

/-- The softmax keeps the logits' order. -/
theorem soft_lt (v : Fin 8 → ℝ) (M : ℝ) (a b : Fin 8) :
    ((Real.exp (v a - M) / total v M : ℝ) : EReal) < ((Real.exp (v b - M) / total v M : ℝ) : EReal) ↔ (v a : EReal) < (v b : EReal) := by
  rw [EReal.coe_lt_coe_iff, EReal.coe_lt_coe_iff, div_lt_div_iff_of_pos_right (total_pos v M), Real.exp_lt_exp]
  exact sub_lt_sub_iff_right M

/-- The weight of the larger of two logits. -/
def share (a b : ℝ) : ℝ := (1 + Real.exp (b - a))⁻¹

/-- The weight is positive. -/
theorem share_pos (a b : ℝ) : 0 < share a b := inv_pos.mpr (add_pos one_pos (Real.exp_pos _))

/-- The weight is below one. -/
theorem share_lt_one (a b : ℝ) : share a b < 1 := inv_lt_one_of_one_lt₀ (lt_add_of_pos_right _ (Real.exp_pos _))

/-- The first entry's share of two softmax entries. -/
theorem share_fst (a b M S : ℝ) (hS : 0 < S) :
    Ideal.div ((Real.exp (a - M) / S : ℝ) : EReal) (((Real.exp (a - M) / S : ℝ) : EReal) + ((Real.exp (b - M) / S : ℝ) : EReal)) = (share a b : EReal) := by
  have hp : 0 < Real.exp (a - M) / S := div_pos (Real.exp_pos _) hS
  have hq : 0 < Real.exp (b - M) / S := div_pos (Real.exp_pos _) hS
  rw [← EReal.coe_add, div_coe _ _ (add_pos hp hq).ne', share]
  congr 1
  have e : Real.exp (b - M) = Real.exp (a - M) * Real.exp (b - a) := by rw [← Real.exp_add]; congr 1; ring
  have h1 := Real.exp_pos (a - M)
  have h2 := Real.exp_pos (b - a)
  rw [e]
  field_simp

/-- The second entry's share of two softmax entries. -/
theorem share_snd (a b M S : ℝ) (hS : 0 < S) :
    Ideal.div ((Real.exp (b - M) / S : ℝ) : EReal) (((Real.exp (a - M) / S : ℝ) : EReal) + ((Real.exp (b - M) / S : ℝ) : EReal)) = ((1 - share a b : ℝ) : EReal) := by
  have hp : 0 < Real.exp (a - M) / S := div_pos (Real.exp_pos _) hS
  have hq : 0 < Real.exp (b - M) / S := div_pos (Real.exp_pos _) hS
  rw [← EReal.coe_add, div_coe _ _ (add_pos hp hq).ne', share]
  congr 1
  have e : Real.exp (b - M) = Real.exp (a - M) * Real.exp (b - a) := by rw [← Real.exp_add]; congr 1; ring
  have h1 := Real.exp_pos (a - M)
  have h2 := Real.exp_pos (b - a)
  rw [e]
  field_simp
  ring

/-- The weight as the kernel computes it. -/
theorem share_kernel (a b : ℝ) : Ideal.div 1 (1 + Ideal.exp ((b : EReal) - (a : EReal))) = (share a b : EReal) := by
  rw [← EReal.coe_sub, Ideal.exp_coe, ← EReal.coe_one, ← EReal.coe_add, div_coe _ _ (add_pos one_pos (Real.exp_pos _)).ne', share, one_div]

end Cert.Weights

end
-- ==== Proof.Balance.lean ====
/-
  The algebra of the claim: over finite activations, applying two positive routing weights before the down projections is
  applying them after, and an expert without weight contributes nothing.
-/
module

public import proofs.«01_k».proof.Proof.Spec
public import proofs.«01_k».proof.Proof.Weights

@[expose] public section

noncomputable section

open Idealize.ShloMosaic

namespace Cert.Balance

open Cert.Spec Cert.Weights

/-- An extended real that is a real number. -/
def Fin' (a : EReal) : Prop := ∃ r : ℝ, a = (r : EReal)

/-- Sums of real numbers are real. -/
theorem Fin'.add {a b : EReal} (ha : Fin' a) (hb : Fin' b) : Fin' (a + b) := by
  obtain ⟨x, rfl⟩ := ha
  obtain ⟨y, rfl⟩ := hb
  exact ⟨x + y, (EReal.coe_add x y).symm⟩

/-- Products of real numbers are real. -/
theorem Fin'.mul {a b : EReal} (ha : Fin' a) (hb : Fin' b) : Fin' (a * b) := by
  obtain ⟨x, rfl⟩ := ha
  obtain ⟨y, rfl⟩ := hb
  exact ⟨x * y, (EReal.coe_mul x y).symm⟩

/-- Finite sums of real numbers are real. -/
theorem Fin'.sum {ι : Type} {s : Finset ι} {f : ι → EReal} (hf : ∀ i, Fin' (f i)) : Fin' (∑ i ∈ s, f i) := by
  choose g hg using hf
  exact ⟨∑ i ∈ s, g i, by rw [coe_sum]; exact Finset.sum_congr rfl fun i _ => hg i⟩

/-- The gated product of real numbers is real. -/
theorem Fin'.glu {a b : EReal} (ha : Fin' a) (hb : Fin' b) : Fin' (Spec.glu a b) := by
  refine (ha.mul ?_).mul hb
  obtain ⟨x, rfl⟩ := ha
  exact ⟨_, Ideal.logistic_coe x⟩

/-- A projection of finite arrays is finite. -/
theorem proj_fin {x : Fin 768 → EReal} {W : Fin 2048 → Fin 768 → EReal} {A : Fin 8 → Fin 8 → Fin 768 → EReal}
    {B : Fin 8 → Fin 2048 → Fin 8 → EReal} (hx : ∀ d, Fin' (x d)) (hW : ∀ f d, Fin' (W f d)) (hA : ∀ e r d, Fin' (A e r d))
    (hB : ∀ e f r, Fin' (B e f r)) (e : Fin 8) (f : Fin 2048) : Fin' (proj x W A B e f) :=
  (Fin'.sum fun d => (hx d).mul (hW f d)).add (Fin'.sum fun r => (Fin'.sum fun d => (hx d).mul (hA e r d)).mul (hB e f r))

/-- A finite nonnegative factor distributes over a finite sum. -/
theorem sum_mul_real {ι : Type} (s : Finset ι) (f : ι → EReal) (p : ℝ) (hp : 0 ≤ p) :
    (∑ i ∈ s, f i) * (p : EReal) = ∑ i ∈ s, f i * (p : EReal) := by
  classical
  induction s using Finset.induction_on with
  | empty => simp
  | insert a s ha ih =>
    rw [Finset.sum_insert ha, Finset.sum_insert ha,
      EReal.right_distrib_of_nonneg_of_ne_top (EReal.coe_nonneg.mpr hp) (EReal.coe_ne_top p), ih]

variable (A2 : Fin 8 → Fin 8 → Fin 2048 → EReal) (B2 : Fin 8 → Fin 768 → Fin 8 → EReal)

/-- Scaling the hidden vector by a nonnegative real scales its low-rank down projection. -/
theorem low_scale (s : Fin 2048 → EReal) (p : ℝ) (hp : 0 ≤ p) (e : Fin 8) (d : Fin 768) :
    low A2 B2 (fun f => s f * (p : EReal)) e d = low A2 B2 s e d * (p : EReal) := by
  unfold low
  rw [sum_mul_real _ _ p hp]
  refine Finset.sum_congr rfl fun r _ => ?_
  rw [mul_right_comm, sum_mul_real _ _ p hp]
  exact congrArg (· * _) (Finset.sum_congr rfl fun f _ => mul_right_comm _ _ _)

/-- The shared down projection of two weighted finite activations. -/
theorem down_scale (s s' ω : Fin 2048 → EReal) (hs : ∀ f, Fin' (s f)) (hs' : ∀ f, Fin' (s' f)) (hω : ∀ f, Fin' (ω f)) (p q : ℝ) :
    ∑ f, (s f * (p : EReal) + s' f * (q : EReal)) * ω f = (∑ f, s f * ω f) * (p : EReal) + (∑ f, s' f * ω f) * (q : EReal) := by
  choose a ha using hs
  choose b hb using hs'
  choose w hw using hω
  simp only [ha, hb, hw, ← EReal.coe_mul, ← EReal.coe_add, ← coe_sum]
  congr 1
  rw [Finset.sum_mul, Finset.sum_mul, ← Finset.sum_add_distrib]
  exact Finset.sum_congr rfl fun f _ => by ring

/-- The experts' outputs, each times the token's weight for it, add up to the kernel's value. -/
theorem balance (x : Fin 768 → EReal) (W1 W3 : Fin 2048 → Fin 768 → EReal) (W2 : Fin 768 → Fin 2048 → EReal)
    (A1 : Fin 8 → Fin 8 → Fin 768 → EReal) (B1 : Fin 8 → Fin 2048 → Fin 8 → EReal)
    (A3 : Fin 8 → Fin 8 → Fin 768 → EReal) (B3 : Fin 8 → Fin 2048 → Fin 8 → EReal)
    (hact : ∀ e f, Fin' (act x W1 W3 A1 B1 A3 B3 e f)) (hW2 : ∀ d f, Fin' (W2 d f))
    (i j : Fin 8) (hij : j ≠ i) (p : ℝ) (h0 : 0 < p) (h1 : p < 1) (w : Fin 8 → EReal) (hi : w i = (p : EReal))
    (hj : w j = ((1 - p : ℝ) : EReal)) (hw : ∀ e, e ≠ i → e ≠ j → w e = 0) (d : Fin 768) :
    ∑ e, ((∑ f, act x W1 W3 A1 B1 A3 B3 e f * W2 d f) + low A2 B2 (act x W1 W3 A1 B1 A3 B3 e) e d) * w e
      = kernelValue x W1 W3 W2 A1 B1 A3 B3 A2 B2 i j (p : EReal) d := by
  have h2 : (0 : ℝ) ≤ 1 - p := sub_nonneg.mpr h1.le
  have hq : (1 : EReal) - (p : EReal) = ((1 - p : ℝ) : EReal) := by rw [EReal.coe_sub, EReal.coe_one]
  unfold kernelValue
  rw [hq, Fintype.sum_eq_add i j hij.symm fun e he => by rw [hw e he.1 he.2, mul_zero], hi, hj,
    EReal.right_distrib_of_nonneg_of_ne_top (EReal.coe_nonneg.mpr h0.le) (EReal.coe_ne_top p),
    EReal.right_distrib_of_nonneg_of_ne_top (EReal.coe_nonneg.mpr h2) (EReal.coe_ne_top _),
    low_scale A2 B2 _ p h0.le, low_scale A2 B2 _ (1 - p) h2,
    down_scale _ _ (W2 d) (hact i) (hact j) (hW2 d) p (1 - p), add_add_add_comm]

end Cert.Balance

end
-- ==== Proof.RefValue.lean ====
/-
  The reference's result over finite arrays: the kernel's value at the two largest logits' experts.
-/
module

public import proofs.«01_k».proof.Proof.RefGate
public import proofs.«01_k».proof.Proof.Balance

@[expose] public section

noncomputable section

open Idealize.ShloMosaic Idealize.ShloMosaic.TcCoe Idealize.SL.Sem

namespace Cert.ReferenceIdeal.RefValue

open Cert.ReferenceIdeal Cert.ReferenceIdeal.Gen Cert.ReferenceIdeal.Value Cert.ReferenceIdeal.RefRead Cert.ReferenceIdeal.RefGate
open Cert.Spec Cert.Top Cert.TopK Cert.Weights Cert.Balance

/-- Places of eight are told apart by their words. -/
theorem word_eq (i e : Fin 8) : BitVec.ofNat 32 i.val = BitVec.ofNat 32 e.val ↔ i = e := by
  revert i e
  decide

variable (V0 : Valuation τ sig (Elt Ideal)) (t : Fin 2048)

/-- The place of the largest softmax entry. -/
abbrev fst : Fin 8 := sortedFrom (before V0 t) 0
/-- The place of the second largest softmax entry. -/
abbrev snd : Fin 8 := sortedFrom (before V0 t) 1

/-- The token's weight for expert `e`, as the reference sums it. -/
def wt (e : Fin 8) : EReal :=
  Ideal.div (soft V0 t (fst V0 t)) (soft V0 t (fst V0 t) + soft V0 t (snd V0 t)) * (if fst V0 t = e then 1 else 0)
    + Ideal.div (soft V0 t (snd V0 t)) (soft V0 t (fst V0 t) + soft V0 t (snd V0 t)) * (if snd V0 t = e then 1 else 0)

/-- Expert `e`'s hidden activation for the token. -/
abbrev actR : Fin 8 → Fin 2048 → EReal :=
  act (fun d => b0 V0 (ix2 t d)) (fun f d => b1 V0 (ix2 f d)) (fun f d => b2 V0 (ix2 f d)) (fun e r d => b5 V0 (ix3 e r d))
    (fun e f r => b6 V0 (ix3 e f r)) (fun e r d => b7 V0 (ix3 e r d)) (fun e f r => b8 V0 (ix3 e f r))

/-- An expert's share of the output at an entry. -/
theorem term_apply (e : Fin 8) (d : Fin 768) : term V0 e (ix2 t d)
    = ((∑ f, actR V0 t e f * b3 V0 (ix2 d f)) + low (fun e r f => b9 V0 (ix3 e r f)) (fun e d r => b10 V0 (ix3 e d r)) (actR V0 t e) e d)
      * wt V0 t e := by
  unfold term low wt
  rw [termV_apply, v20_apply, v20_apply, indices_apply, indices_apply]
  unfold val
  rw [values_apply, values_apply]
  simp only [hid_apply, sliceHid_apply, sliceOut_apply, word_eq]
  rfl

variable (hx : ∀ i, Fin' (b0 V0 i)) (hg : ∀ i, Fin' (b4 V0 i))

include hx hg in
/-- Finite arrays give finite logits. -/
theorem logits_fin (e : Fin 8) : Fin' (logits V0 t e) := Fin'.sum fun _ => (hx _).mul (hg _)

include hx hg in
/-- The two places kept are the two largest logits', and their weights are the logistic shares. -/
theorem routing : Top2 (logits V0 t) (fst V0 t) (snd V0 t) ∧ ∃ p : ℝ, 0 < p ∧ p < 1
    ∧ Ideal.div 1 (1 + Ideal.exp (logits V0 t (snd V0 t) - logits V0 t (fst V0 t))) = (p : EReal)
    ∧ wt V0 t (fst V0 t) = (p : EReal) ∧ wt V0 t (snd V0 t) = ((1 - p : ℝ) : EReal)
    ∧ ∀ e, e ≠ fst V0 t → e ≠ snd V0 t → wt V0 t e = 0 := by
  choose v hv using logits_fin V0 t hx hg
  obtain ⟨e0, he0⟩ := mx_mem (logits V0 t)
  have hs : ∀ e, soft V0 t e = ((Real.exp (v e - v e0) / total v (v e0) : ℝ) : EReal) := fun e => by
    rw [← soft_coe]
    refine (v16_apply V0 t e).trans ?_
    rw [← he0]
    simp only [hv]
  have htop := top2_sorted (soft V0 t) (before V0 t) (before_iff V0 t)
  have hne := htop.ne
  refine ⟨htop.map fun a b => ?_, share (v (fst V0 t)) (v (snd V0 t)), share_pos _ _, share_lt_one _ _, ?_, ?_, ?_, ?_⟩
  · rw [hs, hs, soft_lt, hv, hv]
  · rw [hv, hv, share_kernel]
  · unfold wt
    rw [if_pos rfl, if_neg hne, mul_one, mul_zero, add_zero, hs, hs, share_fst _ _ _ _ (total_pos _ _)]
  · unfold wt
    rw [if_pos rfl, if_neg hne.symm, mul_one, mul_zero, zero_add, hs, hs, share_snd _ _ _ _ (total_pos _ _)]
  · intro e h1 h2
    unfold wt
    rw [if_neg h1.symm, if_neg h2.symm, mul_zero, mul_zero, add_zero]

include hx hg in
/-- The reference's result at an entry is the kernel's value. -/
theorem value (h1 : ∀ i, Fin' (b1 V0 i)) (h2 : ∀ i, Fin' (b2 V0 i)) (h3 : ∀ i, Fin' (b3 V0 i)) (h5 : ∀ i, Fin' (b5 V0 i))
    (h6 : ∀ i, Fin' (b6 V0 i)) (h7 : ∀ i, Fin' (b7 V0 i)) (h8 : ∀ i, Fin' (b8 V0 i)) (d : Fin 768) :
    res_main_v341 V0 (ix2 t d)
      = kernelValue (fun d => b0 V0 (ix2 t d)) (fun f d => b1 V0 (ix2 f d)) (fun f d => b2 V0 (ix2 f d)) (fun d f => b3 V0 (ix2 d f))
          (fun e r d => b5 V0 (ix3 e r d)) (fun e f r => b6 V0 (ix3 e f r)) (fun e r d => b7 V0 (ix3 e r d)) (fun e f r => b8 V0 (ix3 e f r))
          (fun e r f => b9 V0 (ix3 e r f)) (fun e d r => b10 V0 (ix3 e d r))
          (i1 (logits V0 t)) (i2 (logits V0 t))
          (Ideal.div 1 (1 + Ideal.exp (mx (drop (logits V0 t) (i1 (logits V0 t))) - mx (logits V0 t)))) d := by
  have hl : ∀ e, logits V0 t e ≠ ⊥ := fun e => by
    obtain ⟨r, hr⟩ := logits_fin V0 t hx hg e
    rw [hr]
    exact EReal.coe_ne_bot r
  obtain ⟨htop, p, hp0, hp1, hp, hwi, hwj, hw⟩ := routing V0 t hx hg
  obtain ⟨ei, ej⟩ := (top2 (logits V0 t) hl).unique htop
  rw [mx_drop _ hl, ← l_i1 (logits V0 t), ei, ej, hp, v341_apply]
  simp only [term_apply]
  exact balance _ _ _ _ _ _ _ _ _ _
    (fun e f => (proj_fin (fun d => hx _) (fun f d => h1 _) (fun e r d => h5 _) (fun e f r => h6 _) e f).glu
      (proj_fin (fun d => hx _) (fun f d => h2 _) (fun e r d => h7 _) (fun e f r => h8 _) e f))
    (fun d f => h3 _) _ _ htop.ne p hp0 hp1 (wt V0 t) hwi hwj hw d

end Cert.ReferenceIdeal.RefValue

end
-- ==== Proof.Final.lean ====
/-
  The two programs' results over finite arrays are one array.
-/
module

public import proofs.«01_k».proof.Defs
public import proofs.«01_k».proof.Proof.Gen.Pre_finite
public import proofs.«01_k».proof.Proof.KernelRead
public import proofs.«01_k».proof.Proof.RefValue

@[expose] public section

noncomputable section

open Idealize.ShloMosaic Idealize.ShloMosaic.TcCoe Idealize.SL.Sem

namespace Cert.Final

open Cert.Balance
open Cert.KernelIdeal.BlockRead Cert.ReferenceIdeal.RefRead

/-- An array whose magnitudes are all below the infinity is an array of reals. -/
theorem real_of_below {s u : Shape} (x : FVec Ideal s .f32) {dims : Fin u.rank → Fin s.rank} (hb : u.BroadcastsInDim s dims)
    (h : cmpf (F := Ideal) (φ := .f32) .olt (Host.absf (F := Ideal) (φ := .f32) x)
      (broadcastInDim s dims hb (constant (F := Ideal) u .f32 0x7F800000#32)) = fun _ => 1#1) (i : s.Idx) : Fin' (x i) := by
  have hi := congrFun h i
  have htop : Ideal.ofBits .f32 0x7F800000#32 = ⊤ := by simp [Ideal.ofBits, Ideal.ieee]
  have hlt : max (x i : EReal) (-(x i : EReal)) < ⊤ := by
    change Ideal.cmp .olt (max (x i : EReal) (-(x i : EReal))) (Ideal.ofBits .f32 0x7F800000#32) = 1#1 at hi
    rw [htop] at hi
    by_contra hn
    simp [Ideal.cmp, hn] at hi
  obtain ⟨h1, h2⟩ := max_lt_iff.mp hlt
  refine ⟨(x i : EReal).toReal, (EReal.coe_toReal h1.ne fun hbot => ?_).symm⟩
  rw [hbot] at h2
  simp at h2

/-- The precondition read array by array: the nine arrays it names hold reals. -/
theorem reals (m : (ℓ : Loc Cert.KernelIdeal.nD Cert.KernelIdeal.τ Cert.KernelIdeal.sig) → Buf (Elt Ideal) ℓ) (hpre : Pre_KernelIdeal_finite m)
    (c : Dev Cert.KernelIdeal.nD) :
    (∀ i, Fin' (a0 m c i)) ∧ (∀ i, Fin' (a1 m c i)) ∧ (∀ i, Fin' (a2 m c i)) ∧ (∀ i, Fin' (a3 m c i)) ∧ (∀ i, Fin' (a4 m c i))
      ∧ (∀ i, Fin' (a5 m c i)) ∧ (∀ i, Fin' (a6 m c i)) ∧ (∀ i, Fin' (a7 m c i)) ∧ (∀ i, Fin' (a8 m c i)) := by
  obtain ⟨h0, h1, h2, h3, h4, h5, h6, h7, h8⟩ := hpre c
  exact ⟨real_of_below _ _ h0, real_of_below _ _ h1, real_of_below _ _ h2, real_of_below _ _ h3, real_of_below _ _ h4,
    real_of_below _ _ h5, real_of_below _ _ h6, real_of_below _ _ h7, real_of_below _ _ h8⟩

/-- Over finite arrays on which the two programs agree, the reference's result is the kernel's. -/
theorem results (m : (ℓ : Loc Cert.KernelIdeal.nD Cert.KernelIdeal.τ Cert.KernelIdeal.sig) → Buf (Elt Ideal) ℓ) (hpre : Pre_KernelIdeal_finite m)
    (c : Dev Cert.KernelIdeal.nD) (V0 : Valuation Cert.ReferenceIdeal.τ Cert.ReferenceIdeal.sig (Elt Ideal))
    (e0 : b0 V0 = a0 m c) (e1 : b1 V0 = a1 m c) (e2 : b2 V0 = a2 m c) (e3 : b3 V0 = a3 m c) (e4 : b4 V0 = a4 m c) (e5 : b5 V0 = a5 m c)
    (e6 : b6 V0 = a6 m c) (e7 : b7 V0 = a7 m c) (e8 : b8 V0 = a8 m c) (e9 : b9 V0 = a9 m c) (e10 : b10 V0 = a10 m c)
    (t : Fin 2048) (d : Fin 768) :
    Cert.ReferenceIdeal.Value.res_main_v341 V0 (ix2 t d) = Cert.KernelIdeal.Value.G9 m c (ix2 t d) := by
  obtain ⟨h0, h1, h2, h3, h4, h5, h6, h7, h8⟩ := reals m hpre c
  have hl : Cert.ReferenceIdeal.RefGate.logits V0 t = Cert.KernelIdeal.KernelRead.logits m c t := by
    funext e
    change (∑ d, b0 V0 (ix2 t d) * b4 V0 (ix2 e d) : EReal) = ∑ d, a0 m c (ix2 t d) * a4 m c (ix2 e d)
    rw [e0, e4]
  have hb : ∀ e, Cert.KernelIdeal.KernelRead.logits m c t e ≠ ⊥ := fun e => by
    obtain ⟨r, hr⟩ : Fin' (Cert.KernelIdeal.KernelRead.logits m c t e) := Fin'.sum fun _ => (h0 _).mul (h4 _)
    rw [hr]
    exact EReal.coe_ne_bot r
  refine (Cert.ReferenceIdeal.RefValue.value V0 t (by rw [e0]; exact h0) (by rw [e4]; exact h4) (by rw [e1]; exact h1)
    (by rw [e2]; exact h2) (by rw [e3]; exact h3) (by rw [e5]; exact h5) (by rw [e6]; exact h6) (by rw [e7]; exact h7)
    (by rw [e8]; exact h8) d).trans ?_
  refine Eq.trans ?_ (Cert.KernelIdeal.KernelRead.value m c t hb d).symm
  rw [hl, e0, e1, e2, e3, e5, e6, e7, e8, e9, e10]

end Cert.Final

end
-- ==== Proof.lean ====
/-
  The proof of the certificate's claim. The kernel's value and frame are its generated runs; the reference's are its generated
  run; the two results are put side by side by `Cert.Final.results`.
-/
module

public import proofs.«01_k».proof.Defs
public import proofs.«01_k».proof.Proof.Gen.Kernel.Frame
public import proofs.«01_k».proof.Proof.Gen.KernelIdeal.Value
public import proofs.«01_k».proof.Proof.Gen.Pre_finite
public import proofs.«01_k».proof.Proof.Gen.ReferenceIdeal.Run
public import Idealize.ShloMosaic.Adequacy
public import Idealize.ShloMosaic.Init
public import Idealize.ShloMosaic.Lib.Quiescent
public import proofs.«01_k».proof.Proof.Final

@[expose] public section

noncomputable section

namespace Cert.Proof

open Idealize.ShloMosaic Idealize.SL.Sem

/-- The reference always runs to its end, leaves its arguments as they were and every counter at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same over finite arrays. -/
theorem quiescent_ReferenceIdeal_pre_finite : quiescent_ReferenceIdeal_pre_finite := fun m ρ _ =>
  quiescent_ReferenceIdeal m ρ trivial

/-- Over finite arrays the kernel and the reference compute the same result. -/
theorem algebraic_KernelIdeal_ReferenceIdeal_pre_finite : algebraic_KernelIdeal_ReferenceIdeal_pre_finite := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  refine (h c).1.trans ?_
  obtain ⟨e0, e1, e2, e3, e4, e5, e6, e7, e8, e9, e10⟩ := hagree c
  funext i
  rw [eq_ix2 (n0 := 2048) (n1 := 768) i]
  exact Cert.Final.results m hpre c _ e0 e1 e2 e3 e4 e5 e6 e7 e8 e9 e10 _ _

/-- Everything the certificate claims. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  quiescent_ReferenceIdeal, quiescent_ReferenceIdeal_pre_finite, (trivial : preserves_Kernel_KernelIdeal),
  algebraic_KernelIdeal_ReferenceIdeal_pre_finite⟩

end Cert.Proof

end
